-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_experts_fit_KernelIdeal [hPre_experts_fit_KernelIdeal : Cert.Pre_experts_fit_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_experts_fit_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_experts_fit_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_experts_fit_ReferenceIdeal [hPre_experts_fit_ReferenceIdeal : Cert.Pre_experts_fit_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_experts_fit_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_experts_fit_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_experts_fit_KernelIdeal [hKernelIdeal : Cert.KernelIdeal.Facts] [hPre_experts_fit_KernelIdeal : Cert.Pre_experts_fit_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_experts_fit_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_experts_fit_ReferenceIdeal [hReferenceIdeal : Cert.ReferenceIdeal.Facts] [hPre_experts_fit_ReferenceIdeal : Cert.Pre_experts_fit_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_experts_fit_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_experts_fit_KernelIdeal [hKernelIdeal : Cert.KernelIdeal.Facts] [hReferenceIdeal : Cert.ReferenceIdeal.Facts] [hPre_experts_fit_KernelIdeal : Cert.Pre_experts_fit_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_experts_fit_KernelIdeal m →
    (∀ c : Dev Cert.KernelIdeal.nD,
      m ((c.tc : Thread Cert.KernelIdeal.nD Cert.KernelIdeal.τ).loc Cert.KernelIdeal.main_arg0) = Layout.blockN ⟨2, ![1024, 1024]⟩ ⟨2, ![2048, 1024]⟩ (Layout.meshBlock [2, 2, 2] ![[2], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨1, ![1024]⟩ ⟨1, ![2048]⟩ (Layout.meshBlock [2, 2, 2] ![[2]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨3, ![2, 1024, 2048]⟩ ⟨3, ![4, 1024, 2048]⟩ (Layout.meshBlock [2, 2, 2] ![[2], [], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨3, ![2, 2048, 1024]⟩ ⟨3, ![4, 2048, 1024]⟩ (Layout.meshBlock [2, 2, 2] ![[2], [], []] c) (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = Layout.blockN ⟨2, ![1024, 1024]⟩ ⟨2, ![2048, 1024]⟩ (Layout.meshBlock [2, 2, 2] ![[2], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v48) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_experts_fit_KernelIdeal : Cert.Pre_experts_fit_KernelIdeal.Facts) (hPre_experts_fit_ReferenceIdeal : Cert.Pre_experts_fit_ReferenceIdeal.Facts),
    quiescent_Kernel (hKernel := hKernel)
    ∧ quiescent_KernelIdeal (hKernelIdeal := hKernelIdeal)
    ∧ quiescent_KernelIdeal_pre_experts_fit_KernelIdeal (hKernelIdeal := hKernelIdeal) (hPre_experts_fit_KernelIdeal := hPre_experts_fit_KernelIdeal)
    ∧ quiescent_ReferenceIdeal (hReferenceIdeal := hReferenceIdeal)
    ∧ quiescent_ReferenceIdeal_pre_experts_fit_ReferenceIdeal (hReferenceIdeal := hReferenceIdeal) (hPre_experts_fit_ReferenceIdeal := hPre_experts_fit_ReferenceIdeal)
    ∧ preserves_Kernel_KernelIdeal
    ∧ algebraic_KernelIdeal_ReferenceIdeal_pre_experts_fit_KernelIdeal (hKernelIdeal := hKernelIdeal) (hReferenceIdeal := hReferenceIdeal) (hPre_experts_fit_KernelIdeal := hPre_experts_fit_KernelIdeal)
-- ==== Pre_experts_fit_KernelIdeal.lean ====
abbrev S1024x1024 : Shape := ⟨2, ![1024, 1024]⟩
abbrev S1024 : Shape := ⟨1, ![1024]⟩
abbrev S2x1024x2048 : Shape := ⟨3, ![2, 1024, 2048]⟩
abbrev S2x2048x1024 : Shape := ⟨3, ![2, 2048, 1024]⟩
abbrev S_ : Shape := ⟨0, ![]⟩
abbrev S1x1024 : Shape := ⟨2, ![1, 1024]⟩
abbrev S4 : Shape := ⟨1, ![4]⟩
abbrev S4x1 : Shape := ⟨2, ![4, 1]⟩
abbrev S4x1024 : Shape := ⟨2, ![4, 1024]⟩

class Facts : Prop where
  bcast_S_S1024 : S_.BroadcastsInDim S1024 (![] : Fin 0 → Fin S1024.rank)
  bcast_S1024_S1x1024_1 : S1024.BroadcastsInDim S1x1024 (![1] : Fin 1 → Fin S1x1024.rank)
  bcast_S4_S4x1_0 : S4.BroadcastsInDim S4x1 (![0] : Fin 1 → Fin S4x1.rank)
  bcast_S1x1024_S4x1024_0_1 : S1x1024.BroadcastsInDim S4x1024 (![0, 1] : Fin 2 → Fin S4x1024.rank)
  bcast_S4x1_S4x1024_0_1 : S4x1.BroadcastsInDim S4x1024 (![0, 1] : Fin 2 → Fin S4x1024.rank)
  natLt_1_32 : 1 < 32
  reducesTo_S4x1024_S4_d1 : S4x1024.ReducesTo [1] S4
  h_S_ : 0 < S_.numel
  bcast_S_S4 : S_.BroadcastsInDim S4 (![] : Fin 0 → Fin S4.rank)

variable [Facts]

def fn {F : FTy → Type} [FloatOps F] (main_arg0 : FVec F S1024x1024 .bf16) (main_arg1 : IVec S1024 32) (main_arg2 : FVec F S2x1024x2048 .f32) (main_arg3 : FVec F S2x2048x1024 .f32) : IVec S1024 1 × IVec S4 1 :=
  let main_c : IVec S_ 32 := constantI S_ 32 0#32
  let main_v0 : IVec S1024 32 := broadcastInDim S1024 ![] bcast_S_S1024 main_c
  let main_v1 : IVec S1024 1 := cmpi .sge main_arg1 main_v0
  let main_c_0 : IVec S_ 32 := constantI S_ 32 4#32
  let main_v2 : IVec S1024 32 := broadcastInDim S1024 ![] bcast_S_S1024 main_c_0
  let main_v3 : IVec S1024 1 := cmpi .slt main_arg1 main_v2
  let main_v4 : IVec S1024 1 := andi main_v1 main_v3
  let main_v5 : IVec S1x1024 32 := broadcastInDim S1x1024 ![1] bcast_S1024_S1x1024_1 main_arg1
  let main_v6 : IVec S4 32 := iotaInDim S4 32 0
  let main_v7 : IVec S4x1 32 := broadcastInDim S4x1 ![0] bcast_S4_S4x1_0 main_v6
  let main_v8 : IVec S4x1024 32 := broadcastInDim S4x1024 ![0, 1] bcast_S1x1024_S4x1024_0_1 main_v5
  let main_v9 : IVec S4x1024 32 := broadcastInDim S4x1024 ![0, 1] bcast_S4x1_S4x1024_0_1 main_v7
  let main_v10 : IVec S4x1024 1 := cmpi .eq main_v8 main_v9
  let main_v11 : IVec S4x1024 32 := (extui 32 · natLt_1_32) main_v10
  let main_c_1 : IVec S_ 32 := constantI S_ 32 0#32
  let main_v12 : IVec S4 32 := (fun x v => Host.reduce IntOp.addi x v reducesTo_S4x1024_S4_d1 h_S_) main_v11 main_c_1
  let main_c_2 : IVec S_ 32 := constantI S_ 32 288#32
  let main_v13 : IVec S4 32 := broadcastInDim S4 ![] bcast_S_S4 main_c_2
  let main_v14 : IVec S4 1 := cmpi .sle main_v12 main_v13
  (main_v4, main_v14)
-- ==== Pre_experts_fit_ReferenceIdeal.lean ====
abbrev S2048x1024 : Shape := ⟨2, ![2048, 1024]⟩
abbrev S2048 : Shape := ⟨1, ![2048]⟩
abbrev S4x1024x2048 : Shape := ⟨3, ![4, 1024, 2048]⟩
abbrev S4x2048x1024 : Shape := ⟨3, ![4, 2048, 1024]⟩
abbrev S_ : Shape := ⟨0, ![]⟩
abbrev S1x2048 : Shape := ⟨2, ![1, 2048]⟩
abbrev S4 : Shape := ⟨1, ![4]⟩
abbrev S4x1 : Shape := ⟨2, ![4, 1]⟩
abbrev S4x2048 : Shape := ⟨2, ![4, 2048]⟩

class Facts : Prop where
  bcast_S_S2048 : S_.BroadcastsInDim S2048 (![] : Fin 0 → Fin S2048.rank)
  bcast_S2048_S1x2048_1 : S2048.BroadcastsInDim S1x2048 (![1] : Fin 1 → Fin S1x2048.rank)
  bcast_S4_S4x1_0 : S4.BroadcastsInDim S4x1 (![0] : Fin 1 → Fin S4x1.rank)
  bcast_S1x2048_S4x2048_0_1 : S1x2048.BroadcastsInDim S4x2048 (![0, 1] : Fin 2 → Fin S4x2048.rank)
  bcast_S4x1_S4x2048_0_1 : S4x1.BroadcastsInDim S4x2048 (![0, 1] : Fin 2 → Fin S4x2048.rank)
  natLt_1_32 : 1 < 32
  reducesTo_S4x2048_S4_d1 : S4x2048.ReducesTo [1] S4
  h_S_ : 0 < S_.numel
  bcast_S_S4 : S_.BroadcastsInDim S4 (![] : Fin 0 → Fin S4.rank)

variable [Facts]

def fn {F : FTy → Type} [FloatOps F] (main_arg0 : FVec F S2048x1024 .bf16) (main_arg1 : IVec S2048 32) (main_arg2 : FVec F S4x1024x2048 .f32) (main_arg3 : FVec F S4x2048x1024 .f32) : IVec S2048 1 × IVec S4 1 :=
  let main_c : IVec S_ 32 := constantI S_ 32 0#32
  let main_v0 : IVec S2048 32 := broadcastInDim S2048 ![] bcast_S_S2048 main_c
  let main_v1 : IVec S2048 1 := cmpi .sge main_arg1 main_v0
  let main_c_0 : IVec S_ 32 := constantI S_ 32 4#32
  let main_v2 : IVec S2048 32 := broadcastInDim S2048 ![] bcast_S_S2048 main_c_0
  let main_v3 : IVec S2048 1 := cmpi .slt main_arg1 main_v2
  let main_v4 : IVec S2048 1 := andi main_v1 main_v3
  let main_v5 : IVec S1x2048 32 := broadcastInDim S1x2048 ![1] bcast_S2048_S1x2048_1 main_arg1
  let main_v6 : IVec S4 32 := iotaInDim S4 32 0
  let main_v7 : IVec S4x1 32 := broadcastInDim S4x1 ![0] bcast_S4_S4x1_0 main_v6
  let main_v8 : IVec S4x2048 32 := broadcastInDim S4x2048 ![0, 1] bcast_S1x2048_S4x2048_0_1 main_v5
  let main_v9 : IVec S4x2048 32 := broadcastInDim S4x2048 ![0, 1] bcast_S4x1_S4x2048_0_1 main_v7
  let main_v10 : IVec S4x2048 1 := cmpi .eq main_v8 main_v9
  let main_v11 : IVec S4x2048 32 := (extui 32 · natLt_1_32) main_v10
  let main_c_1 : IVec S_ 32 := constantI S_ 32 0#32
  let main_v12 : IVec S4 32 := (fun x v => Host.reduce IntOp.addi x v reducesTo_S4x2048_S4_d1 h_S_) main_v11 main_c_1
  let main_c_2 : IVec S_ 32 := constantI S_ 32 288#32
  let main_v13 : IVec S4 32 := broadcastInDim S4 ![] bcast_S_S4 main_c_2
  let main_v14 : IVec S4 1 := cmpi .sle main_v12 main_v13
  (main_v4, main_v14)
-- ==== Kernel.lean ====
abbrev S1024x1024 : Shape := ⟨2, ![1024, 1024]⟩
abbrev S1024 : Shape := ⟨1, ![1024]⟩
abbrev S2x1024x2048 : Shape := ⟨3, ![2, 1024, 2048]⟩
abbrev S2x2048x1024 : Shape := ⟨3, ![2, 2048, 1024]⟩
abbrev S1024x1 : Shape := ⟨2, ![1024, 1]⟩
abbrev S1152x1024 : Shape := ⟨2, ![1152, 1024]⟩
abbrev S4x144x1024 : Shape := ⟨3, ![4, 144, 1024]⟩
abbrev S9 : Shape := ⟨1, ![9]⟩
abbrev S4 : Shape := ⟨1, ![4]⟩
abbrev S_ : Shape := ⟨0, ![]⟩
abbrev S1 : Shape := ⟨1, ![1]⟩
abbrev S1x1024x2048 : Shape := ⟨3, ![1, 1024, 2048]⟩
abbrev S1024x2048 : Shape := ⟨2, ![1024, 2048]⟩
abbrev S1x2048x1024 : Shape := ⟨3, ![1, 2048, 1024]⟩
abbrev S2048x1024 : Shape := ⟨2, ![2048, 1024]⟩
abbrev S1024x4 : Shape := ⟨2, ![1024, 4]⟩
abbrev S128x128 : Shape := ⟨2, ![128, 128]⟩
abbrev S1x4 : Shape := ⟨2, ![1, 4]⟩
abbrev S128x4 : Shape := ⟨2, ![128, 4]⟩
abbrev S1x1024 : Shape := ⟨2, ![1, 1024]⟩
abbrev S576x1024 : Shape := ⟨2, ![576, 1024]⟩
abbrev S1x144x1024 : Shape := ⟨3, ![1, 144, 1024]⟩
abbrev S144x1024 : Shape := ⟨2, ![144, 1024]⟩
abbrev S288x1024 : Shape := ⟨2, ![288, 1024]⟩
abbrev S288x2048 : Shape := ⟨2, ![288, 2048]⟩
abbrev S144x2048 : Shape := ⟨2, ![144, 2048]⟩
abbrev S1x72x1024 : Shape := ⟨3, ![1, 72, 1024]⟩
abbrev S72x1024 : Shape := ⟨2, ![72, 1024]⟩
abbrev S72x2048 : Shape := ⟨2, ![72, 2048]⟩

abbrev nBuf : Space → Nat
  | .hbm => 6
  | .vmem => 10
  | .smem => 0
  | _ => 0

abbrev bufTy : (tb : Table) → Fin (tcTables nBuf tb) → BufTy
  | .hbm, ⟨0, _⟩ => ⟨S1024x1024, .bf16⟩
  | .hbm, ⟨1, _⟩ => ⟨S1024, .i32⟩
  | .hbm, ⟨2, _⟩ => ⟨S2x1024x2048, .f32⟩
  | .hbm, ⟨3, _⟩ => ⟨S2x2048x1024, .f32⟩
  | .hbm, ⟨4, _⟩ => ⟨S1024x1, .i32⟩
  | .hbm, ⟨5, _⟩ => ⟨S1024x1024, .f32⟩
  | .local _ .vmem, ⟨0, _⟩ => ⟨S1024x1024, .bf16⟩
  | .local _ .vmem, ⟨1, _⟩ => ⟨S1024x1, .i32⟩
  | .local _ .vmem, ⟨2, _⟩ => ⟨S1152x1024, .bf16⟩
  | .local _ .vmem, ⟨3, _⟩ => ⟨S1152x1024, .bf16⟩
  | .local _ .vmem, ⟨4, _⟩ => ⟨S4x144x1024, .bf16⟩
  | .local _ .vmem, ⟨5, _⟩ => ⟨S4x144x1024, .bf16⟩
  | .local _ .vmem, ⟨6, _⟩ => ⟨S2x1024x2048, .f32⟩
  | .local _ .vmem, ⟨7, _⟩ => ⟨S2x2048x1024, .f32⟩
  | .local _ .vmem, ⟨8, _⟩ => ⟨S1152x1024, .bf16⟩
  | .local _ .vmem, ⟨9, _⟩ => ⟨S1024x1024, .f32⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  (ofTc nBuf bufTy 1 25 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_31 : BitVec 32 := 4#32
  let v35 : BitVec 32 := Scalar.muli v2 c4_i32_31
  let v36 : BitVec 32 := Scalar.addi c0_i32_32 v35
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_33 : BitVec 32 := 2#32
  let v37 : BitVec 32 := Scalar.muli v5 c2_i32_33
  let v38 : BitVec 32 := Scalar.addi v36 v37
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_34 : BitVec 32 := 1#32
  let v39 : BitVec 32 := Scalar.muli v9 c1_i32_34
  let v40 : BitVec 32 := Scalar.addi v38 v39
  v40.toNat
def k0_off1 (d0 : Dev nD) : Fin 2 → Nat :=
  let c2_i32_57 : BitVec 32 := 2#32
  let c1_i32_56 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v129 : BitVec 32 := Scalar.subi c1_i32_56 v8
  let v130 : BitVec 32 := Scalar.muli c2_i32_57 v129
  let c288_i32_58 : BitVec 32 := 288#32
  let v131 : BitVec 32 := Scalar.muli v130 c288_i32_58
  let v134 : Index := Scalar.indexCast v131
  let c0_61 : Index := 0#32
  ![v134.toNat, 0]
def k0_off2 (d0 : Dev nD) (c0_i32_66 : BitVec 32) : Fin 2 → Nat :=
  let c2_i32_57 : BitVec 32 := 2#32
  let c1_i32_56 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v129 : BitVec 32 := Scalar.subi c1_i32_56 v8
  let v130 : BitVec 32 := Scalar.muli c2_i32_57 v129
  let c288_i32_58 : BitVec 32 := 288#32
  let v131 : BitVec 32 := Scalar.muli v130 c288_i32_58
  let v144 : BitVec 32 := Scalar.addi v131 c0_i32_66
  let c0_i32_76 : BitVec 32 := 0#32
  ![v144.toNat, 0]
def k0_dev2 (d0 : Dev nD) : Nat :=
  let c0_i32_71 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_70 : BitVec 32 := 4#32
  let v145 : BitVec 32 := Scalar.muli v2 c4_i32_70
  let v146 : BitVec 32 := Scalar.addi c0_i32_71 v145
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_72 : BitVec 32 := 2#32
  let v147 : BitVec 32 := Scalar.muli v5 c2_i32_72
  let v148 : BitVec 32 := Scalar.addi v146 v147
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_73 : BitVec 32 := 1#32
  let v149 : BitVec 32 := Scalar.muli v9 c1_i32_73
  let v150 : BitVec 32 := Scalar.addi v148 v149
  v150.toNat
def k0_dev3 (d0 : Dev nD) : Nat :=
  let c0_i32_81 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_80 : BitVec 32 := 4#32
  let v159 : BitVec 32 := Scalar.muli v2 c4_i32_80
  let v160 : BitVec 32 := Scalar.addi c0_i32_81 v159
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_82 : BitVec 32 := 2#32
  let v161 : BitVec 32 := Scalar.muli v5 c2_i32_82
  let v162 : BitVec 32 := Scalar.addi v160 v161
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_83 : BitVec 32 := 1#32
  let v163 : BitVec 32 := Scalar.muli v9 c1_i32_83
  let v164 : BitVec 32 := Scalar.addi v162 v163
  v164.toNat
def k0_dev4 (d0 : Dev nD) : Nat :=
  let c0_i32_92 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_91 : BitVec 32 := 4#32
  let v173 : BitVec 32 := Scalar.muli v2 c4_i32_91
  let v174 : BitVec 32 := Scalar.addi c0_i32_92 v173
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_93 : BitVec 32 := 2#32
  let v175 : BitVec 32 := Scalar.muli v5 c2_i32_93
  let v176 : BitVec 32 := Scalar.addi v174 v175
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_94 : BitVec 32 := 1#32
  let v177 : BitVec 32 := Scalar.muli v9 c1_i32_94
  let v178 : BitVec 32 := Scalar.addi v176 v177
  v178.toNat
def k0_dev5 (d0 : Dev nD) : Nat :=
  let c0_i32_102 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_101 : BitVec 32 := 4#32
  let v187 : BitVec 32 := Scalar.muli v2 c4_i32_101
  let v188 : BitVec 32 := Scalar.addi c0_i32_102 v187
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_103 : BitVec 32 := 2#32
  let v189 : BitVec 32 := Scalar.muli v5 c2_i32_103
  let v190 : BitVec 32 := Scalar.addi v188 v189
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_104 : BitVec 32 := 1#32
  let v191 : BitVec 32 := Scalar.muli v9 c1_i32_104
  let v192 : BitVec 32 := Scalar.addi v190 v191
  v192.toNat
def k0_off3 (d0 : Dev nD) : Fin 2 → Nat :=
  let c2_i32_59 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v132 : BitVec 32 := Scalar.muli c2_i32_59 v8
  let c288_i32_60 : BitVec 32 := 288#32
  let v133 : BitVec 32 := Scalar.muli v132 c288_i32_60
  let v200 : Index := Scalar.indexCast v133
  let c0_108 : Index := 0#32
  ![v200.toNat, 0]
def k0_off4 (d0 : Dev nD) (c0_i32_127 : BitVec 32) : Fin 2 → Nat :=
  let c2_i32_59 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v132 : BitVec 32 := Scalar.muli c2_i32_59 v8
  let c288_i32_60 : BitVec 32 := 288#32
  let v133 : BitVec 32 := Scalar.muli v132 c288_i32_60
  let v222 : BitVec 32 := Scalar.addi v133 c0_i32_127
  let v223 : Index := Scalar.indexCast v222
  let c0_128 : Index := 0#32
  ![v223.toNat, 0]
def k0_off5 (d0 : Dev nD) (c0_i32_165 : BitVec 32) : Fin 2 → Nat :=
  let c2_i32_59 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v132 : BitVec 32 := Scalar.muli c2_i32_59 v8
  let c288_i32_60 : BitVec 32 := 288#32
  let v133 : BitVec 32 := Scalar.muli v132 c288_i32_60
  let v266 : BitVec 32 := Scalar.addi v133 c0_i32_165
  let c0_i32_166 : BitVec 32 := 0#32
  let v267 : BitVec 32 := Scalar.addi v266 c0_i32_166
  let c0_i32_174 : BitVec 32 := 0#32
  ![v267.toNat, 0]
def k0_dev6 (d0 : Dev nD) : Nat :=
  let c0_i32_171 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_170 : BitVec 32 := 4#32
  let v268 : BitVec 32 := Scalar.muli v2 c4_i32_170
  let v269 : BitVec 32 := Scalar.addi c0_i32_171 v268
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_172 : BitVec 32 := 2#32
  let v270 : BitVec 32 := Scalar.muli v5 c2_i32_172
  let v271 : BitVec 32 := Scalar.addi v269 v270
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_173 : BitVec 32 := 1#32
  let v272 : BitVec 32 := Scalar.muli v9 c1_i32_173
  let v273 : BitVec 32 := Scalar.addi v271 v272
  v273.toNat
def k0_dev7 (d0 : Dev nD) : Nat :=
  let c0_i32_206 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_205 : BitVec 32 := 4#32
  let v309 : BitVec 32 := Scalar.muli v2 c4_i32_205
  let v310 : BitVec 32 := Scalar.addi c0_i32_206 v309
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_207 : BitVec 32 := 2#32
  let v311 : BitVec 32 := Scalar.muli v5 c2_i32_207
  let v312 : BitVec 32 := Scalar.addi v310 v311
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_208 : BitVec 32 := 1#32
  let v313 : BitVec 32 := Scalar.muli v9 c1_i32_208
  let v314 : BitVec 32 := Scalar.addi v312 v313
  v314.toNat
def k0_dev8 (d0 : Dev nD) : Nat :=
  let c0_i32_255 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_254 : BitVec 32 := 4#32
  let v362 : BitVec 32 := Scalar.muli v2 c4_i32_254
  let v363 : BitVec 32 := Scalar.addi c0_i32_255 v362
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_256 : BitVec 32 := 2#32
  let v364 : BitVec 32 := Scalar.muli v5 c2_i32_256
  let v365 : BitVec 32 := Scalar.addi v363 v364
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_257 : BitVec 32 := 1#32
  let v366 : BitVec 32 := Scalar.muli v9 c1_i32_257
  let v367 : BitVec 32 := Scalar.addi v365 v366
  v367.toNat
def k0_off6 (d0 : Dev nD) (c0_i32_286 : BitVec 32) : Fin 2 → Nat :=
  let c2_i32_59 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v132 : BitVec 32 := Scalar.muli c2_i32_59 v8
  let c288_i32_60 : BitVec 32 := 288#32
  let v133 : BitVec 32 := Scalar.muli v132 c288_i32_60
  let c432_i32_285 : BitVec 32 := 432#32
  let v401 : BitVec 32 := Scalar.addi v133 c432_i32_285
  let v402 : BitVec 32 := Scalar.addi v401 c0_i32_286
  let c0_i32_293 : BitVec 32 := 0#32
  ![v402.toNat, 0]
def k0_dev9 (d0 : Dev nD) : Nat :=
  let c0_i32_290 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_289 : BitVec 32 := 4#32
  let v403 : BitVec 32 := Scalar.muli v2 c4_i32_289
  let v404 : BitVec 32 := Scalar.addi c0_i32_290 v403
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_291 : BitVec 32 := 2#32
  let v405 : BitVec 32 := Scalar.muli v5 c2_i32_291
  let v406 : BitVec 32 := Scalar.addi v404 v405
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_292 : BitVec 32 := 1#32
  let v407 : BitVec 32 := Scalar.muli v9 c1_i32_292
  let v408 : BitVec 32 := Scalar.addi v406 v407
  v408.toNat
def k0_dev10 (d0 : Dev nD) : Nat :=
  let c0_i32_314 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_313 : BitVec 32 := 4#32
  let v433 : BitVec 32 := Scalar.muli v2 c4_i32_313
  let v434 : BitVec 32 := Scalar.addi c0_i32_314 v433
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_315 : BitVec 32 := 2#32
  let v435 : BitVec 32 := Scalar.muli v5 c2_i32_315
  let v436 : BitVec 32 := Scalar.addi v434 v435
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_316 : BitVec 32 := 1#32
  let v437 : BitVec 32 := Scalar.muli v9 c1_i32_316
  let v438 : BitVec 32 := Scalar.addi v436 v437
  v438.toNat
abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2048x1024 : Shape := ⟨2, ![2048, 1024]⟩
abbrev S2048 : Shape := ⟨1, ![2048]⟩
abbrev S4x1024x2048 : Shape := ⟨3, ![4, 1024, 2048]⟩
abbrev S4x2048x1024 : Shape := ⟨3, ![4, 2048, 1024]⟩
abbrev S_ : Shape := ⟨0, ![]⟩
abbrev S1x1024x2048 : Shape := ⟨3, ![1, 1024, 2048]⟩
abbrev S1024x2048 : Shape := ⟨2, ![1024, 2048]⟩
abbrev S2048x2048 : Shape := ⟨2, ![2048, 2048]⟩
abbrev S1x2048x1024 : Shape := ⟨3, ![1, 2048, 1024]⟩
abbrev S2048x1 : Shape := ⟨2, ![2048, 1]⟩

abbrev nBuf : Space → Nat
  | .hbm => 66
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048, .i32⟩
  | .hbm, ⟨2, _⟩ => ⟨S4x1024x2048, .f32⟩
  | .hbm, ⟨3, _⟩ => ⟨S4x2048x1024, .f32⟩
  | .hbm, ⟨4, _⟩ => ⟨S_, .f32⟩
  | .hbm, ⟨5, _⟩ => ⟨S2048x1024, .f32⟩
  | .hbm, ⟨6, _⟩ => ⟨S1x1024x2048, .f32⟩
  | .hbm, ⟨7, _⟩ => ⟨S1024x2048, .f32⟩
  | .hbm, ⟨8, _⟩ => ⟨S2048x2048, .f32⟩
  | .hbm, ⟨9, _⟩ => ⟨S_, .f32⟩
  | .hbm, ⟨10, _⟩ => ⟨S2048x2048, .f32⟩
  | .hbm, ⟨11, _⟩ => ⟨S2048x2048, .f32⟩
  | .hbm, ⟨12, _⟩ => ⟨S1x2048x1024, .f32⟩
  | .hbm, ⟨13, _⟩ => ⟨S2048x1024, .f32⟩
  | .hbm, ⟨14, _⟩ => ⟨S2048x1024, .f32⟩
  | .hbm, ⟨15, _⟩ => ⟨S_, .i32⟩
  | .hbm, ⟨16, _⟩ => ⟨S2048, .i32⟩
  | .hbm, ⟨17, _⟩ => ⟨S2048, .i1⟩
  | .hbm, ⟨18, _⟩ => ⟨S2048x1, .i1⟩
  | .hbm, ⟨19, _⟩ => ⟨S2048x1024, .i1⟩
  | .hbm, ⟨20, _⟩ => ⟨S2048x1024, .f32⟩
  | .hbm, ⟨21, _⟩ => ⟨S1x1024x2048, .f32⟩
  | .hbm, ⟨22, _⟩ => ⟨S1024x2048, .f32⟩
  | .hbm, ⟨23, _⟩ => ⟨S2048x2048, .f32⟩
  | .hbm, ⟨24, _⟩ => ⟨S_, .f32⟩
  | .hbm, ⟨25, _⟩ => ⟨S2048x2048, .f32⟩
  | .hbm, ⟨26, _⟩ => ⟨S2048x2048, .f32⟩
  | .hbm, ⟨27, _⟩ => ⟨S1x2048x1024, .f32⟩
  | .hbm, ⟨28, _⟩ => ⟨S2048x1024, .f32⟩
  | .hbm, ⟨29, _⟩ => ⟨S2048x1024, .f32⟩
  | .hbm, ⟨30, _⟩ => ⟨S_, .i32⟩
  | .hbm, ⟨31, _⟩ => ⟨S2048, .i32⟩
  | .hbm, ⟨32, _⟩ => ⟨S2048, .i1⟩
  | .hbm, ⟨33, _⟩ => ⟨S2048x1, .i1⟩
  | .hbm, ⟨34, _⟩ => ⟨S2048x1024, .i1⟩
  | .hbm, ⟨35, _⟩ => ⟨S2048x1024, .f32⟩
  | .hbm, ⟨36, _⟩ => ⟨S1x1024x2048, .f32⟩
  | .hbm, ⟨37, _⟩ => ⟨S1024x2048, .f32⟩
  | .hbm, ⟨38, _⟩ => ⟨S2048x2048, .f32⟩
  | .hbm, ⟨39, _⟩ => ⟨S_, .f32⟩
  | .hbm, ⟨40, _⟩ => ⟨S2048x2048, .f32⟩
  | .hbm, ⟨41, _⟩ => ⟨S2048x2048, .f32⟩
  | .hbm, ⟨42, _⟩ => ⟨S1x2048x1024, .f32⟩
  | .hbm, ⟨43, _⟩ => ⟨S2048x1024, .f32⟩
  | .hbm, ⟨44, _⟩ => ⟨S2048x1024, .f32⟩
  | .hbm, ⟨45, _⟩ => ⟨S_, .i32⟩
  | .hbm, ⟨46, _⟩ => ⟨S2048, .i32⟩
  | .hbm, ⟨47, _⟩ => ⟨S2048, .i1⟩
  | .hbm, ⟨48, _⟩ => ⟨S2048x1, .i1⟩
  | .hbm, ⟨49, _⟩ => ⟨S2048x1024, .i1⟩
  | .hbm, ⟨50, _⟩ => ⟨S2048x1024, .f32⟩
  | .hbm, ⟨51, _⟩ => ⟨S1x1024x2048, .f32⟩
  | .hbm, ⟨52, _⟩ => ⟨S1024x2048, .f32⟩
  | .hbm, ⟨53, _⟩ => ⟨S2048x2048, .f32⟩
  | .hbm, ⟨54, _⟩ => ⟨S_, .f32⟩
  | .hbm, ⟨55, _⟩ => ⟨S2048x2048, .f32⟩
  | .hbm, ⟨56, _⟩ => ⟨S2048x2048, .f32⟩
  | .hbm, ⟨57, _⟩ => ⟨S1x2048x1024, .f32⟩
  | .hbm, ⟨58, _⟩ => ⟨S2048x1024, .f32⟩
  | .hbm, ⟨59, _⟩ => ⟨S2048x1024, .f32⟩
  | .hbm, ⟨60, _⟩ => ⟨S_, .i32⟩
  | .hbm, ⟨61, _⟩ => ⟨S2048, .i32⟩
  | .hbm, ⟨62, _⟩ => ⟨S2048, .i1⟩
  | .hbm, ⟨63, _⟩ => ⟨S2048x1, .i1⟩
  | .hbm, ⟨64, _⟩ => ⟨S2048x1024, .i1⟩
  | .hbm, ⟨65, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_v0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_call1_v0 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_c_4 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_call2_v0 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_5 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_c_6 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call3_v0 : Ref sig .tc := ⟨.hbm, 64, rfl⟩
abbrev main_v48 : Ref sig .tc := ⟨.hbm, 65, rfl⟩

abbrev nD : Nat := 1
abbrev τ : Topo := Topo.v7x

variable {F : FTy → Type} [FloatOps F]
-- ==== Proof.Contents.lean ====
/-
  What every buffer of the kernel comes to hold, as a function of the four argument blocks of every device: the contents
  are stated element by element over the whole buffer, independently of the order in which the body fills it.

  Device `c` and its partner `pe c` (the other coordinate of the mesh axis `z`) share the experts of one pair: rows
  `576 h … 576 h + 575` of the packed buffers belong to the two experts that the device with `z = h` owns.
-/
module

public import proofs.«01_k».proof.Proof.Gen.KernelIdeal
public import proofs.«01_k».proof.Proof.Gen.KernelIdeal.Skeleton
public import Idealize.ShloMosaic.Lib.Pointwise.Index

@[expose] public section

noncomputable section

namespace Cert.MoeProof

open Cert.KernelIdeal Cert.KernelIdeal.Gen
open Idealize.ShloMosaic

variable {F : FTy → Type} [FloatOps F]

/-! ## The partner device -/

set_option backward.proofsInPublic true in
/-- The device with the other coordinate on the mesh axis `z`. -/
def pe (c : Dev nD) : Dev nD :=
  ⟨(4 * (c.val / 4) + 2 * ((c.val / 2) % 2) + 1) - (c.val % 2), by have h : c.val < 8 := c.isLt; show _ < 8; omega⟩

/-- The device's coordinate on the mesh axis `z`. -/
def zc (c : Dev nD) : ℕ := c.val % 2

/-- The coordinate is 0 or 1. -/
theorem zc_lt (c : Dev nD) : zc c < 2 := Nat.mod_lt _ (by decide)
/-- The partner's partner is the device. -/
theorem pe_pe (c : Dev nD) : pe (pe c) = c := by revert c; decide
/-- The partner has the other coordinate. -/
theorem zc_pe (c : Dev nD) : zc (pe c) = 1 - zc c := by revert c; decide

/-! ## Blocks of rows -/

/-- Rows `lo … lo + n - 1` of a packed buffer (rows past its end read row 0; no use reaches them). -/
def rowBlk (lo n : ℕ) (v : FVec F S1152x1024 .bf16) : FVec F (⟨2, ![n, 1024]⟩ : Shape) .bf16 :=
  fun j => if h : lo + (j 0).val < 1152 then v (ix2 ⟨lo + (j 0).val, h⟩ (j 1)) else v (ix2 ⟨0, by decide⟩ (j 1))

/-- Rows `lo … lo + n - 1` of slot `r` of a buffer of four slots, with the slot's axis kept. -/
def slotBlk (r lo n : ℕ) (v : FVec F S4x144x1024 .bf16) : FVec F (⟨3, ![1, n, 1024]⟩ : Shape) .bf16 :=
  fun j => if h : r < 4 ∧ lo + (j 1).val < 144 then v (ix3 ⟨r, h.1⟩ ⟨lo + (j 1).val, h.2⟩ (j 2)) else v (ix3 ⟨0, by decide⟩ ⟨0, by decide⟩ (j 2))

/-- Expert `e`'s first weight matrix, with the expert's axis kept. -/
def expert1 (e : ℕ) (w : FVec F S2x1024x2048 .f32) : FVec F S1x1024x2048 .f32 :=
  fun j => w (ix3 ⟨e % 2, Nat.mod_lt _ (by decide)⟩ (j 1) (j 2))
/-- Expert `e`'s second weight matrix, with the expert's axis kept. -/
def expert2 (e : ℕ) (w : FVec F S2x2048x1024 .f32) : FVec F S1x2048x1024 .f32 :=
  fun j => w (ix3 ⟨e % 2, Nat.mod_lt _ (by decide)⟩ (j 1) (j 2))

/-! ## The contents -/

/-- The four argument blocks of every device. -/
structure Args (F : FTy → Type) where
  x : Dev nD → FVec F S1024x1024 .bf16
  a : Dev nD → IVec S1024x1 32
  w1 : Dev nD → FVec F S2x1024x2048 .f32
  w2 : Dev nD → FVec F S2x2048x1024 .f32

variable (G : Args F)

/-- The rank of every token among the device's tokens of its expert, as the kernel counts it. -/
def rankOf (a : IVec S1024x1 32) : IVec S1024x1 32 :=
  k0_pay10 (k0_pay2 (F := F) a) (k0_pay3 (F := F)) (k0_pay6 a) (k0_pay7 a) (k0_pay8 a) (k0_pay9 a)

/-- The selection matrix: row `k` marks the token packed at row `k`. -/
def selOf (c : Dev nD) : FVec F S1152x1024 .bf16 := k0_pay11 (F := F) (k0_pay1 (F := F) (G.a c)) (rankOf (F := F) (G.a c))

/-- The packed tokens of device `c`. -/
def bufOf (c : Dev nD) : FVec F S1152x1024 .bf16 := fun i =>
  k0_pay12 (rowBlk (576 * ((i 0).val / 576)) 576 (selOf G c)) (G.x c)
    (ix2 ⟨(i 0).val % 576, Nat.mod_lt _ (by decide)⟩ (i 1))

/-- The packed tokens device `c` receives from its partner, in four slots. -/
def recvOf (c : Dev nD) : FVec F S4x144x1024 .bf16 := fun i =>
  bufOf G (pe c) (ix2 ⟨576 * zc c + 144 * (i 0).val + (i 1).val, by
    have h0 : (i 0).val < 4 := (i 0).isLt
    have h1 : (i 1).val < 144 := (i 1).isLt
    have := zc_lt c; omega⟩ (i 2))

/-- What device `c`'s experts make of its partner's tokens, in four slots. -/
def pbufOf (c : Dev nD) : FVec F S4x144x1024 .bf16 := fun i =>
  if (i 0).val < 3 then
    k0_pay15 (slotBlk (i 0).val 0 144 (recvOf G c)) (expert1 ((i 0).val / 2) (G.w1 c)) (expert2 ((i 0).val / 2) (G.w2 c)) (ix3 (0 : Fin 1) (i 1) (i 2))
  else
    k0_pay20 (k0_pay19 (slotBlk 3 (72 * ((i 1).val / 72)) 72 (recvOf G c)) (expert1 1 (G.w1 c))) (expert2 1 (G.w2 c))
      (ix3 (0 : Fin 1) ⟨(i 1).val % 72, Nat.mod_lt _ (by decide)⟩ (i 2))

/-- The results of device `c`'s packed tokens: its own experts' rows, and its partner's experts' rows. -/
def yOf (c : Dev nD) : FVec F S1152x1024 .bf16 := fun i =>
  if (i 0).val / 576 = zc c then
    k0_pay14 (rowBlk (288 * ((i 0).val / 288)) 288 (bufOf G c)) (expert1 ((i 0).val / 288) (G.w1 c)) (expert2 ((i 0).val / 288) (G.w2 c))
      (ix2 ⟨(i 0).val % 288, Nat.mod_lt _ (by decide)⟩ (i 1))
  else
    pbufOf G (pe c) (ix3 ⟨((i 0).val % 576) / 144, by omega⟩ ⟨(i 0).val % 144, Nat.mod_lt _ (by decide)⟩ (i 1))

/-- The tokens' results, unpacked by the selection matrix. -/
def outOf (c : Dev nD) : FVec F S1024x1024 .f32 :=
  k0_pay26 (k0_pay25 (rowBlk (576 * zc c) 576 (selOf G c)) (rowBlk (576 * zc c) 576 (yOf G c)))
    (rowBlk (576 - 576 * zc c) 576 (selOf G c)) (rowBlk (576 - 576 * zc c) 576 (yOf G c))

end Cert.MoeProof

end
-- ==== Proof.Protocol.lean ====
/-
  The protocol of the kernel between a device and its partner: the cells, what each hands over, what each device owes and
  the levels at which the waits are ordered.

  Every device has nineteen cells of one round and one duty each: the barrier cell (one unit, from the partner's signal,
  which hands over the partner's landing buffers), nine cells of sent copies (each hands the source rows back) and nine
  cells of landed copies (each hands over the rows that landed). The local copies need no schedule.
-/
module

public import proofs.«01_k».proof.Proof.Contents
public import proofs.«01_k».proof.Proof.Gen.KernelIdeal.Launch
public import Idealize.ShloMosaic.Lib.Pointwise.Reshape
public import Idealize.ShloMosaic.Lib.Pipeline.Launch
public import Idealize.ShloMosaic.Lib.Pipeline.Kit
public import Idealize.ShloMosaic.Lib.Transfers
public import Idealize.ShloMosaic.Lib.Tactic

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's copy, the protocol's, the local copies' counters -/

/-- The resource of the exchange. -/
abbrev UB : Type := URounds (GSem nD τ sig) Unit
/-- The user's resources: those of the staged copies and those of the exchange. -/
abbrev UU : Type := UR sig nD τ × (UB × Counters)

local notation "𝕄" => MT nD τ sig Unit (Elt F) ℕ UU ℕ

/-- Where the resources of the staged copies lie among them. -/
abbrev EP : Emb (UR sig nD τ) (MT nD τ sig Unit (Elt F) ℕ UU ℕ) := embL
/-- The protocol's rounds library: the left half of the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance
/-- The local copies' counters. -/
abbrev EC : UEmb Counters (MT nD τ sig Unit (Elt F) ℕ UU ℕ) := countersEmb (U := UU)

/-! ## The semaphores -/

/-- An element of an array of semaphores has the number of the array's base plus its place. -/
theorem semAt_val {n N : ℕ} (base : ℕ) (h) (k : ℕ) (inb) (sq) :
    (((SemArray.consecutive (n := N) base (⟨1, ![n]⟩ : Shape) h).slice (Rect.unit (s := ⟨1, ![n]⟩) ![k] S1.size inb)).squeeze S_ sq).sem.val = base + k := by
  simp only [SemArray.sem, SemArray.squeeze, SemArray.slice, SemArray.consecutive]
  generalize (Shape.reshapeEquiv _ _) = x
  rw [rowMajor_val1]
  have hx : (x 0).val < 1 := (x 0).isLt
  show base + (k + 1 * (x 0).val) = _
  omega

/-- The scoped DMA semaphore at position `q` of the kernel's pool. -/
def dsem (q : ℕ) : DmaSem sig := ⟨q % 25, Nat.mod_lt _ (by decide)⟩

/-- A semaphore named by its number has that number. -/
theorem dsem_val {q : ℕ} (h : q < 25) : (dsem q).val = q := Nat.mod_eq_of_lt h

/-- The semaphore of the `k`-th sent copy, -/
def sendS (k : ℕ) : DmaSem sig := dsem (2 + k)
/-- of the `k`-th landed copy, -/
def recvS (k : ℕ) : DmaSem sig := dsem (11 + k)
/-- of the `k`-th copy of weights, -/
def wcpS (k : ℕ) : DmaSem sig := dsem (20 + k)
/-- and of the copy of the result. -/
def outS : DmaSem sig := dsem 24

/-- The elements of the first array of semaphores are those of the departures. -/
theorem send_sem (k : ℕ) (inb) (sq) :
    ((cc0_scratch8.slice (Rect.unit (s := S9) ![k] S1.size inb)).squeeze S_ sq).sem = sendS k := by
  refine Fin.ext ((semAt_val ..).trans ?_)
  have h : k + 1 ≤ 9 := inb 0
  exact (dsem_val (by omega)).symm
/-- The elements of the second are those of the landings. -/
theorem recv_sem (k : ℕ) (inb) (sq) :
    ((cc0_scratch9.slice (Rect.unit (s := S9) ![k] S1.size inb)).squeeze S_ sq).sem = recvS k := by
  refine Fin.ext ((semAt_val ..).trans ?_)
  have h : k + 1 ≤ 9 := inb 0
  exact (dsem_val (by omega)).symm
/-- The elements of the third are those of the weights' copies. -/
theorem wcp_sem (k : ℕ) (inb) (sq) :
    ((cc0_scratch10.slice (Rect.unit (s := S4) ![k] S1.size inb)).squeeze S_ sq).sem = wcpS k := by
  refine Fin.ext ((semAt_val ..).trans ?_)
  have h : k + 1 ≤ 4 := inb 0
  exact (dsem_val (by omega)).symm
/-- The last semaphore is that of the result's copy. -/
theorem out_sem : (cc0_scratch11 : DmaSems sig S_).sem = outS := by decide +kernel

/-- The runtime's barrier semaphore of collective id 0. -/
abbrev barS : Sem sig := (SemArray.scalar (sig.barrier 0 rfl) : Sems sig S_).sem

/-- The barrier's cell of a device. -/
abbrev barCell (c : Dev nD) : GSem nD τ sig := ((c : Thread nD τ), .reg barS)
/-- The cell on which a device sees its copy `k` depart. -/
abbrev sendCell (c : Dev nD) (k : ℕ) : GSem nD τ sig := ((c : Thread nD τ), .dma (sendS k))
/-- The cell on which copy `k` lands on a device. -/
abbrev recvCell (c : Dev nD) (k : ℕ) : GSem nD τ sig := ((c : Thread nD τ), .dma (recvS k))

/-! ## The pieces of the buffers -/

/-- Rows `lo … lo + n - 1` of a packed buffer. -/
def rowsAt (lo n : ℕ) : Finset S1152x1024.Idx := Finset.univ.filter fun i => lo ≤ (i 0).val ∧ (i 0).val < lo + n
/-- Rows `lo … lo + n - 1` of slot `r` of a buffer of four slots. -/
def slotAt (r lo n : ℕ) : Finset S4x144x1024.Idx := Finset.univ.filter fun i => (i 0).val = r ∧ lo ≤ (i 1).val ∧ (i 1).val < lo + n

/-- An element lies in a stretch of rows by its first coordinate. -/
theorem mem_rowsAt {lo n : ℕ} {i : S1152x1024.Idx} : i ∈ rowsAt lo n ↔ lo ≤ (i 0).val ∧ (i 0).val < lo + n := by simp [rowsAt]
/-- An element lies in a stretch of a slot by its first two coordinates. -/
theorem mem_slotAt {r lo n : ℕ} {i : S4x144x1024.Idx} : i ∈ slotAt r lo n ↔ (i 0).val = r ∧ lo ≤ (i 1).val ∧ (i 1).val < lo + n := by simp [slotAt]

/-- Elements `S` of device `c`'s buffer `b`, holding `f`. -/
abbrev pt (c : Dev nD) (b : Ref sig .tc) (S : Finset (Idx ((c : Thread nD τ).loc b))) (f : Buf (Elt F) ((c : Thread nD τ).loc b)) : sProp 𝕄 :=
  ((c : Thread nD τ).loc b) ↦[S]{fullShare} f

/-- The rows of the packed results, past the partner's first row, at which the copy on cell `k` (4 to 8) lands; -/
def qlo : ℕ → ℕ
  | 4 => 0 | 5 => 144 | 6 => 288 | 7 => 432 | _ => 504
/-- how many rows it moves. -/
def qn (k : ℕ) : ℕ := if k < 7 then 144 else 72

/-! ## The schedule -/

variable (G : Args F)

/-- Device `c`'s receive cells are open. -/
def ready (c : Dev nD) : sProp 𝕄 := bigSep Finset.univ fun k : Fin 9 => reached ER (recvCell c k.val) 0
instance ready_persistent (c : Dev nD) : BI.Persistent (ready (F := F) c) := by unfold ready; infer_instance

/-- What the partner's signal hands device `c`: the partner's four receive slots and its packed results' rows of `c`'s
    experts, at any contents, and that the partner's receive cells are open. -/
def barPay (c : Dev nD) : sProp 𝕄 :=
  iprop((∃ f, pt (pe c) cc0_scratch2 Finset.univ f) ∗ (∃ g, pt (pe c) cc0_scratch1 (rowsAt (576 * zc c) 576) g) ∗ ready (pe c))

/-- What the `k`-th sent copy hands back to the sender `c`: its source rows. -/
def sendPay (c : Dev nD) (k : ℕ) : sProp 𝕄 :=
  if k < 4 then pt c cc0_scratch0 (rowsAt (576 - 576 * zc c + 144 * k) 144) (bufOf G c)
  else pt c cc0_scratch3 (slotAt (qlo k / 144) (qlo k % 144) (qn k)) (pbufOf G c)

/-- What the `k`-th landed copy hands to the receiver `c`: the rows that landed. -/
def recvPay (c : Dev nD) (k : ℕ) : sProp 𝕄 :=
  if k < 4 then pt c cc0_scratch2 (slotAt k 0 144) (recvOf G c)
  else pt c cc0_scratch1 (rowsAt (576 - 576 * zc c + qlo k) (qn k)) (yOf G c)

/-- The credit of the `k`-th copy. -/
def amt (k : ℕ) : ℕ := if k < 7 then 9216 else 4608
/-- Every copy moves something. -/
theorem amt_pos (k : ℕ) : 0 < amt k := by unfold amt; split <;> decide

/-- The semaphores that are cells of the protocol. -/
def isCell : SemLoc sig → Prop
  | .reg q => q = barS
  | .dma q => 2 ≤ q.val ∧ q.val < 20
instance (s : SemLoc sig) : Decidable (isCell s) := by cases s <;> (unfold isCell; infer_instance)

/-- The schedule: each cell has one round with one duty, its amount and what it hands over. -/
def moeRd : Rounds.Schedule (GSem nD τ sig) Unit 𝕄 where
  duties g r := if r = 0 ∧ g.1.2 = .tc ∧ isCell g.2 then {()} else ∅
  unitless _ := False
  amount g _ _ := match g.2 with
    | .reg _ => 1
    | .dma q => amt ((q.val - 2) % 9)
  payload g _ _ := match g.2 with
    | .reg _ => barPay g.1.1
    | .dma q => if q.val < 11 then sendPay G g.1.1 (q.val - 2) else recvPay G g.1.1 (q.val - 11)
  amount_pos g _ _ _ := by
    rcases g.2 with q | q
    · exact Nat.one_pos
    · exact amt_pos _

omit [FloatOps F] in
instance pt_storable (c : Dev nD) (b : Ref sig .tc) (S) (f : Buf (Elt F) ((c : Thread nD τ).loc b)) :
    BI.Storable (upEmb : UEmb _ 𝕄) (pt (F := F) c b S f) := by unfold pt; infer_instance
instance sendPay_storable (c : Dev nD) (k : ℕ) : BI.Storable (upEmb : UEmb _ 𝕄) (sendPay (F := F) G c k) := by
  unfold sendPay; split <;> infer_instance
instance recvPay_storable (c : Dev nD) (k : ℕ) : BI.Storable (upEmb : UEmb _ 𝕄) (recvPay (F := F) G c k) := by
  unfold recvPay; split <;> infer_instance
omit [FloatOps F] in
instance barPay_storable (c : Dev nD) : BI.Storable (upEmb : UEmb _ 𝕄) (barPay (F := F) c) := by unfold barPay ready; infer_instance

instance moeRd_payload_storable (g : GSem nD τ sig) (r : ℕ) (d : Unit) :
    BI.Storable (upEmb : UEmb _ 𝕄) ((moeRd (F := F) G).payload g r d) := by
  obtain ⟨t, s⟩ := g
  cases s with
  | reg q => show BI.Storable upEmb (barPay t.1); infer_instance
  | dma q =>
    show BI.Storable upEmb (if q.val < 11 then sendPay G t.1 (q.val - 2) else recvPay G t.1 (q.val - 11))
    split <;> infer_instance

section Sched
variable (c : Dev nD)

/-- A barrier's one duty. -/
theorem duties_bar : (moeRd G).duties (barCell c) 0 = {()} := by
  have h : (0 : ℕ) = 0 ∧ (barCell c).1.2 = .tc ∧ isCell (barCell c).2 := ⟨rfl, rfl, (rfl : barS = barS)⟩
  refine (if_pos (t := ({()} : Finset Unit)) (e := ∅) h : _)
/-- A departure's one duty. -/
theorem duties_send (k : ℕ) (hk : k < 9) : (moeRd G).duties (sendCell c k) 0 = {()} := by
  have h : (0 : ℕ) = 0 ∧ (sendCell c k).1.2 = .tc ∧ isCell (sendCell c k).2 :=
    ⟨rfl, rfl, show 2 ≤ (sendS k).val ∧ (sendS k).val < 20 by unfold sendS; rw [dsem_val (by omega)]; omega⟩
  exact if_pos h
/-- A landing's one duty. -/
theorem duties_recv (k : ℕ) (hk : k < 9) : (moeRd G).duties (recvCell c k) 0 = {()} := by
  have h : (0 : ℕ) = 0 ∧ (recvCell c k).1.2 = .tc ∧ isCell (recvCell c k).2 :=
    ⟨rfl, rfl, show 2 ≤ (recvS k).val ∧ (recvS k).val < 20 by unfold recvS; rw [dsem_val (by omega)]; omega⟩
  exact if_pos h
/-- No cell has a duty after the first round. -/
theorem duties_later (g : GSem nD τ sig) : ∀ r, 1 ≤ r → (moeRd G).duties g r = ∅ :=
  fun r hr => if_neg fun h => by omega

/-- A barrier is signalled by one. -/
theorem amount_bar : (moeRd G).amount (barCell c) 0 () = 1 := rfl
/-- A departure is credited with the copy's amount. -/
theorem amount_send (k : ℕ) (hk : k < 9) : (moeRd G).amount (sendCell c k) 0 () = amt k := by
  show amt (((sendS k).val - 2) % 9) = _; unfold sendS; rw [dsem_val (by omega)]; congr 1; omega
/-- A landing is credited with the copy's amount. -/
theorem amount_recv (k : ℕ) (hk : k < 9) : (moeRd G).amount (recvCell c k) 0 () = amt k := by
  show amt (((recvS k).val - 2) % 9) = _; unfold recvS; rw [dsem_val (by omega)]; congr 1; omega

/-- What the barrier hands over. -/
theorem payload_bar : (moeRd G).payload (barCell c) 0 () = barPay c := rfl
/-- What a departure hands back. -/
theorem payload_send (k : ℕ) (hk : k < 9) : (moeRd G).payload (sendCell c k) 0 () = sendPay G c k := by
  show (if (sendS k).val < 11 then sendPay G c ((sendS k).val - 2) else recvPay G c ((sendS k).val - 11)) = _
  unfold sendS; rw [dsem_val (by omega), if_pos (by omega)]; congr 1; omega
/-- What a landing hands over. -/
theorem payload_recv (k : ℕ) (hk : k < 9) : (moeRd G).payload (recvCell c k) 0 () = recvPay G c k := by
  show (if (recvS k).val < 11 then sendPay G c ((recvS k).val - 2) else recvPay G c ((recvS k).val - 11)) = _
  unfold recvS; rw [dsem_val (by omega), if_neg (by omega)]; congr 1; omega

/-- A round of one duty expects that duty's amount. -/
theorem expect_of {g : GSem nD τ sig} {n : ℕ} (hd : (moeRd G).duties g 0 = {()}) (ha : (moeRd G).amount g 0 () = n) :
    (moeRd G).expect g 0 = n := by
  unfold Schedule.expect Schedule.amountOf; rw [hd, Finset.sum_singleton, ha]
/-- A round of one duty, none of it taken, hands over that duty's payload. -/
theorem rest_of {g : GSem nD τ sig} {P : sProp 𝕄} (hd : (moeRd G).duties g 0 = {()}) (hp : (moeRd G).payload g 0 () = P) :
    bigSep ((moeRd G).duties g 0 \ ∅) (fun d => (moeRd G).payload g 0 d) = P := by
  rw [Finset.sdiff_empty, hd, bigSep_singleton, hp]

end Sched

/-! ## What each device owes; the levels -/

/-- What device `c` owes its partner's cells of landed copies with `n` copies still to be sent. -/
def owedR (c : Dev nD) : ℕ → CellTallies nD τ sig Unit
  | 0 => 0
  | n + 1 => owedR c n + tallyAt (recvCell (pe c) (8 - n)) () (amt (8 - n))

/-- What device `c` owes at launch: all nine copies and the barrier's signal. -/
def O₀ (c : Dev nD) : CellTallies nD τ sig Unit := owedR c 9 + tallyAt (barCell (pe c)) () 1

/-- Every semaphore of a TensorCore has one level; the others have none. -/
def L (g : GSem nD τ sig) : Finset Unit := if g.1.2 = .tc then {()} else ∅
/-- The barrier cell at 1, the cells of landed copies from 2 up in the order of their copies, everything else at 0. -/
def lv (g : GSem nD τ sig) (_ : Unit) : ℕ := match g.2 with
  | .reg _ => 1
  | .dma q => if 11 ≤ q.val ∧ q.val < 20 then q.val - 9 else 0

/-- No level off the TensorCores. -/
theorem L_of_ne (g : GSem nD τ sig) (h : g.1.2 ≠ .tc) : L g = ∅ := if_neg h
/-- The one level on a TensorCore. -/
theorem L_tc (c : Dev nD) (sm : SemLoc sig) : L ((c : Thread nD τ), sm) = {()} := if_pos rfl

/-- The level of landing `k` is `k + 2`: the landings are waited for in their order. -/
theorem lv_recv (c : Dev nD) (k : ℕ) (hk : k < 9) : lv (recvCell c k) () = k + 2 := by
  show (if 11 ≤ (recvS k).val ∧ (recvS k).val < 20 then (recvS k).val - 9 else 0) = _
  unfold recvS; rw [dsem_val (by omega), if_pos (by omega)]; omega
/-- The semaphores of the local copies and of the departures are at the lowest level. -/
theorem lv_dsem (c : Dev nD) (q : DmaSem sig) (hq : q.val < 11 ∨ 20 ≤ q.val) : lv ((c : Thread nD τ), .dma q) () = 0 := by
  show (if 11 ≤ q.val ∧ q.val < 20 then q.val - 9 else 0) = 0
  rw [if_neg (by omega)]

/-- What a device still owes by its copies are landings on its partner. -/
theorem owedR_pos {c : Dev nD} {g : GSem nD τ sig} {u : Unit} : ∀ {n : ℕ}, n ≤ 9 → 0 < owedR c n g u →
    ∃ k, k < 9 ∧ 9 ≤ n + k ∧ g = recvCell (pe c) k
  | 0, _, h => absurd h (Nat.lt_irrefl 0)
  | n + 1, hn, h => by
    unfold owedR at h
    rw [Pi.add_apply, Finsupp.add_apply, tallyAt_apply] at h
    by_cases hg : g = recvCell (pe c) (8 - n) ∧ u = ()
    · exact ⟨8 - n, by omega, by omega, hg.1⟩
    · rw [if_neg hg, Nat.add_zero] at h
      obtain ⟨k, h1, h2, h3⟩ := owedR_pos (by omega) h
      exact ⟨k, h1, by omega, h3⟩

/-- What a device owes at the start is its partner's barrier and the landings there. -/
theorem O₀_pos {c : Dev nD} {g : GSem nD τ sig} {u : Unit} (h : 0 < O₀ c g u) :
    g = barCell (pe c) ∨ ∃ k, k < 9 ∧ g = recvCell (pe c) k := by
  unfold O₀ at h
  rw [Pi.add_apply, Finsupp.add_apply, tallyAt_apply] at h
  by_cases hg : g = barCell (pe c) ∧ u = ()
  · exact .inl hg.1
  · rw [if_neg hg, Nat.add_zero] at h
    obtain ⟨k, h1, -, h3⟩ := owedR_pos (le_refl 9) h
    exact .inr ⟨k, h1, h3⟩

omit [FloatOps F] in
/-- A device may wait on a cell whose level is below that of every copy it has still to send. -/
theorem mayWait_owed (c : Dev nD) (sm : SemLoc sig) (n : ℕ) (hn : n ≤ 9) (h : lv ((c : Thread nD τ), sm) () + n < 11) :
    (levAts L lv : sProp 𝕄) ⊢ MayWait (c : Thread nD τ) sm () (owedR c n) := by
  refine MayOwe.of_cut (L := L) (lev := lv) (lv ((c : Thread nD τ), sm) ()) (fun p hp => by rw [Finset.mem_singleton.mp hp, L_tc]; exact Finset.mem_singleton_self _)
      (fun g u hg => by obtain ⟨k, -, -, rfl⟩ := owedR_pos hn hg; exact Finset.mem_singleton_self _)
      (fun p hp => by rw [Finset.mem_singleton.mp hp])
      (fun g u hg => by
        obtain ⟨k, h1, h2, rfl⟩ := owedR_pos hn hg
        have := lv_recv (pe c) k h1
        show _ < lv _ ()
        rw [this]; omega)

omit [FloatOps F] in
/-- The staging waits, issued owing everything or nothing. -/
theorem mayWait_stage (c : Dev nD) (q : DmaSem sig) (hq : q.val < 11 ∨ 20 ≤ q.val) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | ⟨k, -, rfl⟩ <;> exact Finset.mem_singleton_self _)
      (fun p hp => by rw [Finset.mem_singleton.mp hp]; exact le_of_eq (lv_dsem c q hq))
      (fun g u hg => by
        rcases O₀_pos hg with rfl | ⟨k, hk, rfl⟩
        · exact Nat.one_pos
        · have := lv_recv (pe c) k hk
          show _ < lv _ ()
          rw [this]; omega)
  · rw [MayWait_zero]; iintro -; iempintro

end Cert.MoeProof

end
-- ==== Proof.Geometry.lean ====
/-
  Where the kernel's slices lie: the elements of a block of rows, of a part of a slot and of an expert's weights, what a
  load of such a piece returns, and what a write through it leaves.
-/
module

public import proofs.«01_k».proof.Proof.Protocol

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## Indices -/

/-- Indices of a matrix with the same two coordinates are the same. -/
theorem idx2_ext {n m : ℕ} {i j : (⟨2, ![n, m]⟩ : Shape).Idx} (h0 : (i 0).val = (j 0).val) (h1 : (i 1).val = (j 1).val) : i = j := by
  funext a; refine Fin.cases (Fin.ext h0) (fun b => Fin.cases (Fin.ext h1) (fun z => z.elim0) b) a
/-- Indices of a rank-three array with the same three coordinates are the same. -/
theorem idx3_ext {n m l : ℕ} {i j : (⟨3, ![n, m, l]⟩ : Shape).Idx} (h0 : (i 0).val = (j 0).val) (h1 : (i 1).val = (j 1).val)
    (h2 : (i 2).val = (j 2).val) : i = j := by
  funext a
  refine Fin.cases (Fin.ext h0) (fun b => Fin.cases (Fin.ext h1) (fun b => Fin.cases (Fin.ext h2) (fun z => z.elim0) b) b) a

/-- Dropping a leading axis of one element keeps the other coordinates. -/
theorem squeeze_idx {n m : ℕ} (h : (⟨2, ![n, m]⟩ : Shape).numel = (⟨3, ![1, n, m]⟩ : Shape).numel) (j : (⟨2, ![n, m]⟩ : Shape).Idx) :
    Shape.reshapeEquiv h j = ix3 (0 : Fin 1) (j 0) (j 1) :=
  Shape.reshapeEquiv_eq_of_rowMajor h (by
    refine (rowMajor_val3 (d := ![1, n, m]) (ix3 (0 : Fin 1) (j 0) (j 1)) (n * m) m rfl rfl).trans
      (Eq.trans ?_ (rowMajor_val2 (d := ![n, m]) j m rfl).symm)
    show 0 * (n * m) + (j 0).val * m + (j 1).val = (j 0).val * m + (j 1).val
    rw [Nat.zero_mul, Nat.zero_add])

/-! ## Unit-stride blocks of the buffers -/

section Rows
variable {n : ℕ} {off : Fin 2 → ℕ} {lo : ℕ} (h : off = ![lo, 0])
  (inb : ∀ a, off a + (⟨2, ![n, 1024]⟩ : Shape).size a ≤ S1152x1024.size a)
include h inb

/-- A window of whole rows ends within the packed buffer. -/
theorem rows_le : lo + n ≤ 1152 := by subst h; exact inb 0
/-- Row `k` of the window is row `lo + k` of the packed buffer. -/
theorem rows_emb (j : (⟨2, ![n, 1024]⟩ : Shape).Idx) :
    (Rect.unit (s := S1152x1024) off (⟨2, ![n, 1024]⟩ : Shape).size inb).emb j
      = ix2 ⟨lo + (j 0).val, lt_of_lt_of_le (Nat.add_lt_add_left (j 0).isLt lo) (rows_le h inb)⟩ (j 1) := by
  subst h
  refine idx2_ext ?_ ?_
  · show lo + 1 * (j 0).val = lo + (j 0).val; omega
  · show 0 + 1 * (j 1).val = (j 1).val; omega
/-- The window's elements are the rows `lo … lo + n - 1`. -/
theorem rows_set : (Rect.unit (s := S1152x1024) off (⟨2, ![n, 1024]⟩ : Shape).size inb).set = rowsAt lo n := by
  subst h
  ext i
  rw [Rect.mem_set_unit, mem_rowsAt]
  refine ⟨fun hh => hh 0, fun hh a => Fin.cases hh (fun b => Fin.cases ⟨Nat.zero_le _, ?_⟩ (fun z => z.elim0) b) a⟩
  have := (i 1).isLt
  show (i 1).val < 0 + 1024
  rw [Nat.zero_add]; exact this
/-- Reading the window gives that block of rows. -/
theorem rows_read (f : FVec F S1152x1024 .bf16) :
    (fun j => f ((Rect.unit (s := S1152x1024) off (⟨2, ![n, 1024]⟩ : Shape).size inb).emb j)) = rowBlk lo n f := by
  funext j
  rw [rows_emb h inb]
  unfold rowBlk
  rw [dif_pos (lt_of_lt_of_le (Nat.add_lt_add_left (j 0).isLt lo) (rows_le h inb))]
  rfl
end Rows

section Slots
variable {n : ℕ} {r lo : ℕ} (inb : ∀ a, (![r, lo, 0] : Fin 3 → ℕ) a + (⟨3, ![1, n, 1024]⟩ : Shape).size a ≤ S4x144x1024.size a)
include inb

/-- A window of one slot names one of the four. -/
theorem slots_lt : r < 4 := inb 0
/-- It ends within the slot. -/
theorem slots_le : lo + n ≤ 144 := inb 1
/-- Row `k` of the window is row `lo + k` of slot `r`. -/
theorem slots_emb (j : (⟨3, ![1, n, 1024]⟩ : Shape).Idx) :
    (Rect.unit (s := S4x144x1024) ![r, lo, 0] (⟨3, ![1, n, 1024]⟩ : Shape).size inb).emb j
      = ix3 ⟨r, slots_lt inb⟩ ⟨lo + (j 1).val, lt_of_lt_of_le (Nat.add_lt_add_left (j 1).isLt lo) (slots_le inb)⟩ (j 2) := by
  have h0 : (j 0).val < 1 := (j 0).isLt
  refine idx3_ext ?_ ?_ ?_
  · show r + 1 * (j 0).val = r; omega
  · show lo + 1 * (j 1).val = lo + (j 1).val; omega
  · show 0 + 1 * (j 2).val = (j 2).val; omega
/-- The window's elements are the rows `lo … lo + n - 1` of slot `r`. -/
theorem slots_set : (Rect.unit (s := S4x144x1024) ![r, lo, 0] (⟨3, ![1, n, 1024]⟩ : Shape).size inb).set = slotAt r lo n := by
  ext i
  rw [Rect.mem_set_unit, mem_slotAt]
  constructor
  · intro hh
    have h0 : r ≤ (i 0).val ∧ (i 0).val < r + 1 := hh 0
    exact ⟨by omega, hh 1⟩
  · rintro ⟨hr, hh⟩ a
    refine Fin.cases ⟨hr.ge, (by show (i 0).val < r + 1; omega)⟩ (fun b => Fin.cases hh (fun b => Fin.cases ⟨Nat.zero_le _, ?_⟩ (fun z => z.elim0) b) b) a
    have := (i 2).isLt
    show (i 2).val < 0 + 1024
    rw [Nat.zero_add]; exact this
/-- Reading the window gives that block of the slot. -/
theorem slots_read (f : FVec F S4x144x1024 .bf16) :
    (fun j => f ((Rect.unit (s := S4x144x1024) ![r, lo, 0] (⟨3, ![1, n, 1024]⟩ : Shape).size inb).emb j)) = slotBlk r lo n f := by
  funext j
  rw [slots_emb inb]
  unfold slotBlk
  rw [dif_pos ⟨slots_lt inb, lt_of_lt_of_le (Nat.add_lt_add_left (j 1).isLt lo) (slots_le inb)⟩]
  rfl
end Slots

/-- Expert `e`'s part of a device's first weights, -/
def exp1At (e : ℕ) : Finset S2x1024x2048.Idx := Finset.univ.filter fun i => (i 0).val = e
/-- and of its second weights. -/
def exp2At (e : ℕ) : Finset S2x2048x1024.Idx := Finset.univ.filter fun i => (i 0).val = e
/-- An element belongs to expert `e`'s first matrix when its first coordinate is `e`. -/
theorem mem_exp1At {e : ℕ} {i : S2x1024x2048.Idx} : i ∈ exp1At e ↔ (i 0).val = e := by simp [exp1At]
/-- An element belongs to expert `e`'s second matrix when its first coordinate is `e`. -/
theorem mem_exp2At {e : ℕ} {i : S2x2048x1024.Idx} : i ∈ exp2At e ↔ (i 0).val = e := by simp [exp2At]

section Experts
variable {e : ℕ}

/-- The window of one expert has that expert's first matrix for its elements. -/
theorem exp1_set (inb : ∀ a, (![e, 0, 0] : Fin 3 → ℕ) a + S1x1024x2048.size a ≤ S2x1024x2048.size a) :
    (Rect.unit (s := S2x1024x2048) ![e, 0, 0] S1x1024x2048.size inb).set = exp1At e := by
  ext i
  rw [Rect.mem_set_unit, mem_exp1At]
  constructor
  · intro hh
    have h0 : e ≤ (i 0).val ∧ (i 0).val < e + 1 := hh 0
    omega
  · rintro hr a
    refine Fin.cases ⟨hr.ge, (by show (i 0).val < e + 1; omega)⟩ (fun b => Fin.cases ⟨Nat.zero_le _, ?_⟩ (fun b => Fin.cases ⟨Nat.zero_le _, ?_⟩ (fun z => z.elim0) b) b) a
    · have := (i 1).isLt; show (i 1).val < 0 + 1024; rw [Nat.zero_add]; exact this
    · have := (i 2).isLt; show (i 2).val < 0 + 2048; rw [Nat.zero_add]; exact this
/-- The window of one expert has that expert's second matrix for its elements. -/
theorem exp2_set (inb : ∀ a, (![e, 0, 0] : Fin 3 → ℕ) a + S1x2048x1024.size a ≤ S2x2048x1024.size a) :
    (Rect.unit (s := S2x2048x1024) ![e, 0, 0] S1x2048x1024.size inb).set = exp2At e := by
  ext i
  rw [Rect.mem_set_unit, mem_exp2At]
  constructor
  · intro hh
    have h0 : e ≤ (i 0).val ∧ (i 0).val < e + 1 := hh 0
    omega
  · rintro hr a
    refine Fin.cases ⟨hr.ge, (by show (i 0).val < e + 1; omega)⟩ (fun b => Fin.cases ⟨Nat.zero_le _, ?_⟩ (fun b => Fin.cases ⟨Nat.zero_le _, ?_⟩ (fun z => z.elim0) b) b) a
    · have := (i 1).isLt; show (i 1).val < 0 + 2048; rw [Nat.zero_add]; exact this
    · have := (i 2).isLt; show (i 2).val < 0 + 1024; rw [Nat.zero_add]; exact this
/-- Reading the window gives the expert's first matrix. -/
theorem exp1_read (inb : ∀ a, (![e, 0, 0] : Fin 3 → ℕ) a + S1x1024x2048.size a ≤ S2x1024x2048.size a) (f : FVec F S2x1024x2048 .f32) :
    (fun j => f ((Rect.unit (s := S2x1024x2048) ![e, 0, 0] S1x1024x2048.size inb).emb j)) = expert1 e f := by
  funext j
  have he : e + 1 ≤ 2 := inb 0
  have h0 : (j 0).val < 1 := (j 0).isLt
  refine congrArg f (idx3_ext ?_ ?_ ?_)
  · show e + 1 * (j 0).val = e % 2; omega
  · show 0 + 1 * (j 1).val = (j 1).val; omega
  · show 0 + 1 * (j 2).val = (j 2).val; omega
/-- Reading the window gives the expert's second matrix. -/
theorem exp2_read (inb : ∀ a, (![e, 0, 0] : Fin 3 → ℕ) a + S1x2048x1024.size a ≤ S2x2048x1024.size a) (f : FVec F S2x2048x1024 .f32) :
    (fun j => f ((Rect.unit (s := S2x2048x1024) ![e, 0, 0] S1x2048x1024.size inb).emb j)) = expert2 e f := by
  funext j
  have he : e + 1 ≤ 2 := inb 0
  have h0 : (j 0).val < 1 := (j 0).isLt
  refine congrArg f (idx3_ext ?_ ?_ ?_)
  · show e + 1 * (j 0).val = e % 2; omega
  · show 0 + 1 * (j 1).val = (j 1).val; omega
  · show 0 + 1 * (j 2).val = (j 2).val; omega
end Experts

/-! ## The contents along the pieces -/

variable (G : Args F) (c : Dev nD)

/-- The packed tokens along the rows of the pair of experts with coordinate `h`. -/
theorem bufOf_rows {h : ℕ} {off : Fin 2 → ℕ} (ho : off = ![576 * h, 0]) (inb) (j : S576x1024.Idx) :
    bufOf G c ((Rect.unit (s := S1152x1024) off S576x1024.size inb).emb j) = k0_pay12 (rowBlk (576 * h) 576 (selOf G c)) (G.x c) j := by
  rw [rows_emb (n := 576) ho inb]
  have h0 : (j 0).val < 576 := (j 0).isLt
  unfold bufOf
  have e1 : 576 * ((576 * h + (j 0).val) / 576) = 576 * h := by omega
  show k0_pay12 (rowBlk (576 * ((576 * h + (j 0).val) / 576)) 576 (selOf G c)) (G.x c) (ix2 ⟨(576 * h + (j 0).val) % 576, _⟩ (j 1)) = _
  rw [e1]
  refine congrArg _ (idx2_ext ?_ rfl)
  show (576 * h + (j 0).val) % 576 = (j 0).val
  omega

/-- The received tokens along slot `r`: the partner's packed tokens. -/
theorem recvOf_slot {r : ℕ} {off : Fin 2 → ℕ} (ho : off = ![576 - 576 * zc c + 144 * r, 0]) (inb inb') (j : S144x1024.Idx) :
    recvOf G (pe c) ((Rect.unit (s := S4x144x1024) ![r, 0, 0] S1x144x1024.size inb').emb (ix3 (0 : Fin 1) (j 0) (j 1)))
      = bufOf G c ((Rect.unit (s := S1152x1024) off S144x1024.size inb).emb j) := by
  rw [rows_emb (n := 144) ho inb, slots_emb (n := 144) inb']
  unfold recvOf
  rw [pe_pe]
  refine congrArg _ (idx2_ext ?_ rfl)
  have hz := zc_lt c
  have he := zc_pe c
  show 576 * zc (pe c) + 144 * r + (0 + (j 0).val) = 576 - 576 * zc c + 144 * r + (j 0).val
  rw [he]; omega

/-- What the experts make of the partner's tokens along slots 0 to 2, -/
theorem pbufOf_slot {r : ℕ} (hr : r < 3) (inb) (j : S1x144x1024.Idx) :
    pbufOf G c ((Rect.unit (s := S4x144x1024) ![r, 0, 0] S1x144x1024.size inb).emb j)
      = k0_pay15 (slotBlk r 0 144 (recvOf G c)) (expert1 (r / 2) (G.w1 c)) (expert2 (r / 2) (G.w2 c)) j := by
  rw [slots_emb (n := 144) inb]
  unfold pbufOf
  have h0 : (j 0).val < 1 := (j 0).isLt
  refine (if_pos hr).trans (congrArg _ (idx3_ext ?_ ?_ rfl))
  · show 0 = (j 0).val; omega
  · show 0 + (j 1).val = (j 1).val; omega

/-- and along the two halves of slot 3. -/
theorem pbufOf_half {s : ℕ} (inb) (j : S1x72x1024.Idx) :
    pbufOf G c ((Rect.unit (s := S4x144x1024) ![3, 72 * s, 0] S1x72x1024.size inb).emb j)
      = k0_pay20 (k0_pay19 (slotBlk 3 (72 * s) 72 (recvOf G c)) (expert1 1 (G.w1 c))) (expert2 1 (G.w2 c)) j := by
  rw [slots_emb (n := 72) inb]
  unfold pbufOf
  have h0 : (j 0).val < 1 := (j 0).isLt
  have h1 : (j 1).val < 72 := (j 1).isLt
  refine (if_neg (by show ¬ (3 < 3); omega)).trans ?_
  have e1 : 72 * ((72 * s + (j 1).val) / 72) = 72 * s := by omega
  show k0_pay20 (k0_pay19 (slotBlk 3 (72 * ((72 * s + (j 1).val) / 72)) 72 (recvOf G c)) (expert1 1 (G.w1 c))) (expert2 1 (G.w2 c))
    (ix3 (0 : Fin 1) ⟨(72 * s + (j 1).val) % 72, _⟩ (j 2)) = _
  rw [e1]
  refine congrArg _ (idx3_ext ?_ ?_ rfl)
  · show 0 = (j 0).val; omega
  · show (72 * s + (j 1).val) % 72 = (j 1).val; omega

/-- A device's own results along the rows of its expert `e`. -/
theorem yOf_own {e : ℕ} (he : e < 2) {off : Fin 2 → ℕ} (ho : off = ![576 * zc c + 288 * e, 0]) (inb) (j : S288x1024.Idx) :
    yOf G c ((Rect.unit (s := S1152x1024) off S288x1024.size inb).emb j)
      = k0_pay14 (rowBlk (576 * zc c + 288 * e) 288 (bufOf G c)) (expert1 e (G.w1 c)) (expert2 e (G.w2 c)) j := by
  rw [rows_emb (n := 288) ho inb]
  have h0 : (j 0).val < 288 := (j 0).isLt
  unfold yOf
  refine (if_pos (by show (576 * zc c + 288 * e + (j 0).val) / 576 = zc c; omega)).trans ?_
  have e1 : (576 * zc c + 288 * e + (j 0).val) / 288 = 2 * zc c + e := by omega
  show k0_pay14 (rowBlk (288 * ((576 * zc c + 288 * e + (j 0).val) / 288)) 288 (bufOf G c))
    (expert1 ((576 * zc c + 288 * e + (j 0).val) / 288) (G.w1 c)) (expert2 ((576 * zc c + 288 * e + (j 0).val) / 288) (G.w2 c))
      (ix2 ⟨(576 * zc c + 288 * e + (j 0).val) % 288, _⟩ (j 1)) = _
  rw [e1]
  have e2 : 288 * (2 * zc c + e) = 576 * zc c + 288 * e := by omega
  have e3 : (2 * zc c + e) % 2 = e % 2 := by omega
  have hx1 : expert1 (F := F) (2 * zc c + e) (G.w1 c) = expert1 e (G.w1 c) := by
    unfold expert1; simp only [e3]
  have hx2 : expert2 (F := F) (2 * zc c + e) (G.w2 c) = expert2 e (G.w2 c) := by
    unfold expert2; simp only [e3]
  rw [e2, hx1, hx2]
  refine congrArg _ (idx2_ext ?_ rfl)
  show (576 * zc c + 288 * e + (j 0).val) % 288 = (j 0).val
  omega

/-- The partner's results of device `c`'s experts, along the rows the copy on cell `k` writes. -/
theorem yOf_peer {k n : ℕ} (hk4 : 4 ≤ k) (hk : k < 9) (hn : qn k = n) {off : Fin 2 → ℕ} (ho : off = ![576 * zc c + qlo k, 0]) {r lo : ℕ}
    (hr : qlo k / 144 = r) (hlo : qlo k % 144 = lo) (inb inb') (j : (⟨2, ![n, 1024]⟩ : Shape).Idx) :
    yOf G (pe c) ((Rect.unit (s := S1152x1024) off (⟨2, ![n, 1024]⟩ : Shape).size inb).emb j)
      = pbufOf G c ((Rect.unit (s := S4x144x1024) ![r, lo, 0] (⟨3, ![1, n, 1024]⟩ : Shape).size inb').emb (ix3 (0 : Fin 1) (j 0) (j 1))) := by
  rw [rows_emb ho inb, slots_emb inb']
  have h0 : (j 0).val < n := (j 0).isLt
  have hz := zc_lt c
  have he := zc_pe c
  have hb : qlo k + n ≤ 576 ∧ qlo k % 144 + n ≤ 144 := by
    subst hn
    have : k = 4 ∨ k = 5 ∨ k = 6 ∨ k = 7 ∨ k = 8 := by omega
    rcases this with rfl | rfl | rfl | rfl | rfl <;> decide
  unfold yOf
  refine (if_neg (by show ¬ (576 * zc c + qlo k + (j 0).val) / 576 = zc (pe c); rw [he]; omega)).trans ?_
  rw [pe_pe]
  refine congrArg _ (idx3_ext ?_ ?_ rfl)
  · show (576 * zc c + qlo k + (j 0).val) % 576 / 144 = r; omega
  · show (576 * zc c + qlo k + (j 0).val) % 144 = lo + (j 0).val; omega

end Cert.MoeProof

end
-- ==== Proof.Steps.lean ====
/-
  One rule per effect of the kernel's body, at the protocol's cells and the contents the buffers come to hold: a load and
  a store through a piece of a buffer, a local copy and its wait, the barrier's signal and wait, a copy sent to the
  partner, and the waits for a sent and for a landed copy (each of which closes its cell).
-/
module

public import proofs.«01_k».proof.Proof.Geometry

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- No loop needs a variant. -/
abbrev 𝒱₀ : Variants := Variants.none

/-! ## The cells, numbered -/

/-- The semaphores of the cells: the barrier, then the pool's positions 2 to 19. -/
def csem (k : Fin 19) : SemLoc sig := if k.val = 0 then .reg barS else .dma (dsem (k.val + 1))
/-- The cells of the protocol, by device and place. -/
abbrev kcell (ck : Dev nD × Fin 19) : GSem nD τ sig := ((ck.1 : Thread nD τ), csem ck.2)

/-- The place of departure `k`. -/
def iS (k : ℕ) : Fin 19 := ⟨(1 + k) % 19, Nat.mod_lt _ (by decide)⟩
/-- The place of landing `k`. -/
def iR (k : ℕ) : Fin 19 := ⟨(10 + k) % 19, Nat.mod_lt _ (by decide)⟩

/-- The first place is the barrier's. -/
theorem kcell_bar (c : Dev nD) : kcell (c, 0) = barCell c := rfl
/-- Departure `k` at its place. -/
theorem kcell_send (c : Dev nD) {k : ℕ} (hk : k < 9) : kcell (c, iS k) = sendCell c k := by
  have h : (1 + k) % 19 = 1 + k := Nat.mod_eq_of_lt (by omega)
  have : csem (iS k) = .dma (sendS k) := by
    unfold csem iS sendS; simp only [h]; rw [if_neg (by omega)]; congr 2; omega
  show ((c : Thread nD τ), csem (iS k)) = _
  rw [this]
/-- Landing `k` at its place. -/
theorem kcell_recv (c : Dev nD) {k : ℕ} (hk : k < 9) : kcell (c, iR k) = recvCell c k := by
  have h : (10 + k) % 19 = 10 + k := Nat.mod_eq_of_lt (by omega)
  have : csem (iR k) = .dma (recvS k) := by
    unfold csem iR recvS; simp only [h]; rw [if_neg (by omega)]; congr 2; omega
  show ((c : Thread nD τ), csem (iR k)) = _
  rw [this]

variable (G : Args F) (K : Dev nD × Fin 19 → ℕ)

/-- Every cell's invariant, under the names the launch chose, and that every barrier cell is open. -/
def records : sProp 𝕄 :=
  iprop((bigSep Finset.univ fun ck : Dev nD × Fin 19 => cellInv ER (moeRd G) (K ck) (kcell ck))
    ∗ bigSep Finset.univ fun c : Dev nD => reached ER (barCell c) 0)
instance records_persistent : BI.Persistent (records G K) := by unfold records; infer_instance

/-- The records hold the invariant of every cell. -/
theorem inv_at (ck : Dev nD × Fin 19) : records G K ⊢ cellInv ER (moeRd G) (K ck) (kcell ck) := by
  unfold records; iintro ⟨H, -⟩; iapply (show (bigSep Finset.univ fun ck : Dev nD × Fin 19 => (cellInv ER (moeRd G) (K ck) (kcell ck) : sProp 𝕄)) ⊢ cellInv ER (moeRd G) (K ck) (kcell ck) from bigSep_elim (Finset.mem_univ ck)) $$ H
/-- The records say that the barrier's first round is reached. -/
theorem reached_bar (c : Dev nD) : records G K ⊢ reached ER (barCell c) 0 := by
  unfold records; iintro ⟨-, H⟩; iapply (show (bigSep Finset.univ fun c : Dev nD => (reached ER (barCell c) 0 : sProp 𝕄)) ⊢ reached ER (barCell c) 0 from bigSep_elim (Finset.mem_univ c)) $$ H
/-- The invariant of a departure's cell. -/
theorem inv_send (c : Dev nD) {k : ℕ} (hk : k < 9) : records G K ⊢ cellInv ER (moeRd G) (K (c, iS k)) (sendCell c k) :=
  (inv_at G K (c, iS k)).trans (Entails.of_eq (by rw [kcell_send c hk]))
/-- The invariant of a landing's cell. -/
theorem inv_recv (c : Dev nD) {k : ℕ} (hk : k < 9) : records G K ⊢ cellInv ER (moeRd G) (K (c, iR k)) (recvCell c k) :=
  (inv_at G K (c, iR k)).trans (Entails.of_eq (by rw [kcell_recv c hk]))

/-- The tokens that the `k`-th copy to the partner spends, the cells they are of being open. -/
def tok (c : Dev nD) (k : ℕ) : sProp 𝕄 :=
  iprop(dutyTok ER (sendCell c k) 0 () ∗ dutyTok ER (recvCell (pe c) k) 0 () ∗ reached ER (sendCell c k) 0 ∗ reached ER (recvCell (pe c) k) 0)

/-- Device `c` with `n` copies still to be sent. -/
def owe (c : Dev nD) (n : ℕ) : sProp 𝕄 := iprop(∃ W, owes (c : Thread nD τ) (owedR c n) W)

section Rules

variable {α : Type} (c : Dev nD)

/-- The triple of a program on device `c`. -/
abbrev wpc (p : Prog (TpuEff nD τ sig (Elt F) Λ₀ .tc) α) (Q : α → sProp 𝕄) : sProp 𝕄 :=
  wp frame (wpE (defs₀ (F := F)) 𝒱₀ (c : Thread nD τ) none) Set.univ p Q

/-! ### Loads and stores -/

/-- A window of a whole buffer has the window's elements. -/
theorem access_set {b : Ref sig .tc} (r : Rect b.ty.shape) : ((Memref.whole b).access r).set = r.set := View.set_slice_whole b r

/-- A load through a rectangle of a buffer of which the device holds elements that cover it. -/
theorem step_load {Q : α → sProp 𝕄} {cs : CoreSpace} {i : Fin (sig.nNear .tc cs)} {hκ : sig.names .tc cs i = true}
    {r : Rect ((⟨cs, i, hκ⟩ : Ref sig .tc)).ty.shape} {hl} {k : _ → Prog (TpuEff nD τ sig (Elt F) Λ₀ .tc) α}
    {S : Finset (Idx ((c : Thread nD τ).loc (⟨cs, i, hκ⟩ : Ref sig .tc)))} {f : Buf (Elt F) ((c : Thread nD τ).loc (⟨cs, i, hκ⟩ : Ref sig .tc))}
    (v : r.shape.Idx → Elt F (⟨cs, i, hκ⟩ : Ref sig .tc).ty.elt) (hS : r.set ⊆ S) (hv : (fun j => f (r.emb j)) = v) :
    pt c ⟨cs, i, hκ⟩ S f ⊢ iprop((pt c ⟨cs, i, hκ⟩ S f -∗ wpc c (k v) Q)
      -∗ wpc c (.op (.load (Memref.whole (⟨cs, i, hκ⟩ : Ref sig .tc)) r.toLoadRect hl) k) Q) := by
  subst hv
  exact wp_load_rect 𝒱₀ (c : Thread nD τ) none Set.univ (m := Memref.whole (⟨cs, i, hκ⟩ : Ref sig .tc)) (r := r) (hl := hl) (k := k)
    (by rw [access_set]; exact hS)

omit [FloatOps F] in
/-- What a write through a view leaves on its elements. -/
theorem pt_write {sp : Space} {s : Shape} {e : EltTy} (v : View sig .tc sp s e) (fd f' : v.ty.Contents (Elt F)) (w : s.Idx → Elt F e)
    (h : ∀ x, f' (v.emb x) = _root_.cast (congrArg (Elt F) v.elt_eq.symm) (w x)) :
    (v.loc (c : Thread nD τ) ↦[v.set]{fullShare} v.write (Elt F) fd w Finset.univ : sProp 𝕄) = (v.loc (c : Thread nD τ) ↦[v.set]{fullShare} f') :=
  pointsTo_congr (by
    intro i hi
    obtain ⟨x, -, rfl⟩ := Finset.mem_map.mp hi
    rw [View.write_emb_of_mem _ _ (Finset.mem_univ _)]
    exact (h x).symm)

/-- A store through a rectangle whose elements the device holds. -/
theorem step_store {Q : α → sProp 𝕄} {cs : CoreSpace} {i : Fin (sig.nNear .tc cs)} {hκ : sig.names .tc cs i = true}
    {r : Rect ((⟨cs, i, hκ⟩ : Ref sig .tc)).ty.shape} {w : r.shape.Idx → Elt F (⟨cs, i, hκ⟩ : Ref sig .tc).ty.elt} {hx hm}
    {k : PUnit → Prog (TpuEff nD τ sig (Elt F) Λ₀ .tc) α}
    {S : Finset (Idx ((c : Thread nD τ).loc (⟨cs, i, hκ⟩ : Ref sig .tc)))} {f : Buf (Elt F) ((c : Thread nD τ).loc (⟨cs, i, hκ⟩ : Ref sig .tc))}
    (f' : Buf (Elt F) ((c : Thread nD τ).loc (⟨cs, i, hκ⟩ : Ref sig .tc))) (hS : r.set = S) (hw : ∀ x, f' (r.emb x) = w x) :
    pt c ⟨cs, i, hκ⟩ S f ⊢ iprop((pt c ⟨cs, i, hκ⟩ S f' -∗ wpc c (k ⟨⟩) Q)
      -∗ wpc c (.op (.store (Memref.whole (⟨cs, i, hκ⟩ : Ref sig .tc)) r w Finset.univ hx hm) k) Q) := by
  subst hS
  have e : (((Memref.whole (⟨cs, i, hκ⟩ : Ref sig .tc)).access r : View sig .tc _ _ _)).set = r.set := by
    exact access_set r
  have h := pt_write (F := F) c ((Memref.whole (⟨cs, i, hκ⟩ : Ref sig .tc)).access r) f f' w hw
  rw [e] at h
  rw [show pt c ⟨cs, i, hκ⟩ r.set f' = _ from h.symm]
  exact wp_store 𝒱₀ (c : Thread nD τ) none Set.univ (m := Memref.whole (⟨cs, i, hκ⟩ : Ref sig .tc)) (r := r)
    (w := w) (Mk := Finset.univ) (hx := hx) (hm := hm) (k := k) (f := f) (S := r.set) (subset_of_eq e)

/-! ### Local copies -/

/-- A local copy, started. -/
theorem step_copy {Q : α → sProp 𝕄} {sp sp' : Space} {s : Shape} {e : EltTy} {src : Memref sig .tc sp s e} {dst : Memref sig .tc sp' s e} {sm : DmaSem sig}
    {hsrc hdst hsem} {k : PUnit → Prog (TpuEff nD τ sig (Elt F) Λ₀ .tc) α} {Ps Pd Pd' : sProp 𝕄}
    {fs : Buf (Elt F) (src.view.loc (c : Thread nD τ))} {fd fd' : Buf (Elt F) (dst.view.loc (c : Thread nD τ))} (N : ℕ)
    (hN : dst.view.dmaCredit = N) (hN0 : 0 < N)
    (hs : (src.view.loc (c : Thread nD τ) ↦[src.view.set]{fullShare} fs) = Ps)
    (hd : (dst.view.loc (c : Thread nD τ) ↦[dst.view.set]{fullShare} fd) = Pd)
    (hd' : (dst.view.loc (c : Thread nD τ) ↦[dst.view.set]{fullShare} fd') = Pd')
    (hw : ∀ x, fd' (dst.view.emb x) = _root_.cast (congrArg (Elt F) dst.view.elt_eq.symm) (src.view.read (Elt F) fs x)) :
    iprop(Ps ∗ Pd ∗ semVal ((c : Thread nD τ), .dma sm) 0)
      ⊢ iprop((Transfers.Flight EC (c : Thread nD τ) (.dma sm) () N iprop(Pd' ∗ Ps) -∗ wpc c (k ⟨⟩) Q)
          -∗ wpc c (.op (.enqueueDma src (.here dst) (.dma sm) hsrc hdst hsem) k) Q) := by
  have h := Transfers.wp_dmaLocal (defs := defs₀ (F := F)) EC 𝒱₀ (c : Thread nD τ) none (Q := Q) (src := src) (dst := dst) (sm := .dma sm) (hsrc := hsrc) (hdst := hdst) (hsem := hsem)
    (k := k) (q := fullShare) (fs := fs) (Sd := dst.view.set) (fd := fd) (via := .same) () N hN hN0 (subset_refl _)
  rw [pt_write c dst.view fd fd' _ hw, hs, hd, hd'] at h
  exact h

/-- The wait for a local copy. -/
theorem step_waitCopy {Q : α → sProp 𝕄} {sp sp' : Space} {s s' : Shape} {e e' : EltTy} {src : Memref sig .tc sp s e} {dst : Memref sig .tc sp' s' e'} {sm : DmaSem sig}
    {hsrc hdst} {k : PUnit → Prog (TpuEff nD τ sig (Elt F) Λ₀ .tc) α} {D : sProp 𝕄} {N : ℕ} (n : ℕ) (hn : n ≤ 9)
    (hN : dst.view.dmaCredit = N) (hq : 20 ≤ sm.val) :
    iprop(levAts L lv ∗ Transfers.Flight EC (c : Thread nD τ) (.dma sm) () N D ∗ owe c n)
      ⊢ iprop((iprop(D ∗ semVal ((c : Thread nD τ), .dma sm) 0 ∗ owe c n) -∗ wpc c (k ⟨⟩) Q)
          -∗ wpc c (.op (.waitDma2 sm src dst hsrc hdst) k) Q) := by
  unfold owe
  iintro ⟨#Hlev, HF, ⟨%W, HO⟩⟩ Hk
  iapply (Transfers.wp_waitLocalO EC 𝒱₀ (c : Thread nD τ) none () hN) $$ [HF HO]
  · isplitl [HF]; · iexact HF
    isplitl [HO]; · iexact HO
    iapply (mayWait_owed c (.dma sm) n hn (by rw [lv_dsem c sm (Or.inr hq)]; omega)); iexact Hlev
  iintro ⟨HD, Hv, HO⟩
  iapply Hk
  isplitl [HD]; · iexact HD
  isplitl [Hv]; · iexact Hv
  iexists _; iexact HO

/-! ### The barrier -/

/-- The signal to the partner's barrier cell, handing over the receive slots and the rows of the partner's experts. -/
theorem step_signal {Q : α → sProp 𝕄} {n : Dev nD} (hn : n = pe c) {k : PUnit → Prog (TpuEff nD τ sig (Elt F) Λ₀ .tc) α} {W : Waits sig Unit} :
    iprop(records G K ∗ owes (c : Thread nD τ) (O₀ c) W ∗ dutyTok ER (barCell (pe c)) 0 () ∗ barPay (pe c))
      ⊢ iprop((owe c 9 -∗ wpc c (k ⟨⟩) Q) -∗ wpc c (.op (.semSignal (Dev.tc n : Thread nD τ) barS 1) k) Q) := by
  subst hn
  iintro ⟨#HR, HO, Ht, Hp⟩ Hk
  iapply (Rounds.wp_signal 𝒱₀ ER (moeRd G) (c : Thread nD τ) none (dst := (pe c : Thread nD τ)) (κ := K (pe c, 0)) (d := ()) (r := 0)
      (by rw [duties_bar]; exact Finset.mem_singleton_self _) (amount_bar G (pe c)) () (owedR c 9) rfl) $$ [HO Ht Hp]
  · isplitr; · iapply (inv_at G K (pe c, 0)); iexact HR
    isplitl [HO]; · iexact HO
    isplitl [Ht]; · iexact Ht
    isplitl [Hp]; · rw [payload_bar]; iexact Hp
    iapply (reached_bar G K (pe c)); iexact HR
  iintro HO
  iapply Hk
  unfold owe; iexists _; iexact HO

/-- The wait on the own barrier cell, owing every copy. -/
theorem step_waitBar {Q : α → sProp 𝕄} {k : PUnit → Prog (TpuEff nD τ sig (Elt F) Λ₀ .tc) α} :
    iprop(records G K ∗ levAts L lv ∗ cred (tallyAt (barCell c) () 1) ∗ atPos ER (barCell c) 0 ∅ 0 ∗ owe c 9)
      ⊢ iprop((iprop(owe c 9 ∗ semVal (barCell c) 0 ∗ barPay c) -∗ wpc c (k ⟨⟩) Q) -∗ wpc c (.op (.semWait barS 1) k) Q) := by
  unfold owe
  iintro ⟨#HR, #Hlev, Hc, Ha, ⟨%W, HO⟩⟩ Hk
  iapply (Rounds.wp_wait_rest_token 𝒱₀ ER (moeRd G) (c : Thread nD τ) none (κ := K (c, 0))
      (wpE_semWait_eq 𝒱₀ (c : Thread nD τ) none Set.univ) (Set.mem_univ _) () (O := owedR c 9) (W := W) (R := 0) (m := 0) (T := ∅)
      (by rw [expect_of G (duties_bar G c) (amount_bar G c)])) $$ [Hc HO Ha]
  · isplitr; · iapply (inv_at G K (c, 0)); iexact HR
    isplitl [Hc]; · iexact Hc
    isplitl [HO]; · iexact HO
    isplitr; · iapply (mayWait_owed c (.reg barS) 9 (le_refl 9) (by rw [show lv ((c : Thread nD τ), SemLoc.reg barS) () = 1 from rfl]; omega)); iexact Hlev
    iexact Ha
  iintro ⟨HO, Ha, -, Hpay⟩
  ihave Hp := (Entails.of_eq (rest_of G (duties_bar G c) (payload_bar G c))) $$ Hpay
  imod (Rounds.cell_close ER (moeRd G) (Set.mem_univ (K (c, 0))) (fun h => h) (R := 0 + 1) (duties_later G (barCell c))) $$ [Ha] with Hz
  · isplitr; · iapply (inv_at G K (c, 0)); iexact HR
    iexact Ha
  iapply Hk
  isplitl [HO]; · iexists _; iexact HO
  isplitl [Hz]; · iexact Hz
  iexact Hp

/-! ### The copies between the partners -/

/-- The wait for the `k`-th landed copy. -/
theorem step_waitRecv {Q : α → sProp 𝕄} {kk : ℕ} (hk : kk < 9) (n : ℕ) (hn : kk + n < 9) {sm : DmaSem sig} (hsm : sm = recvS kk)
    {sp sp' : Space} {s s' : Shape} {e e' : EltTy} {src : Memref sig .tc sp s e} {dst : Memref sig .tc sp' s' e'} {hsrc hdst}
    (hN : dst.view.dmaCredit = amt kk) {k : PUnit → Prog (TpuEff nD τ sig (Elt F) Λ₀ .tc) α} :
    iprop(records G K ∗ levAts L lv ∗ cred (tallyAt (recvCell c kk) () (amt kk)) ∗ atPos ER (recvCell c kk) 0 ∅ 0 ∗ owe c n)
      ⊢ iprop((iprop(owe c n ∗ semVal (recvCell c kk) 0 ∗ recvPay G c kk) -∗ wpc c (k ⟨⟩) Q)
          -∗ wpc c (.op (.waitDma2 sm src dst hsrc hdst) k) Q) := by
  subst hsm
  unfold owe
  iintro ⟨#HR, #Hlev, Hc, Ha, ⟨%W, HO⟩⟩ Hk
  rw [← hN]
  iapply (Rounds.wp_wait_rest_token 𝒱₀ ER (moeRd G) (c : Thread nD τ) none (κ := K (c, iR kk))
      (wpE_waitDma2_eq 𝒱₀ (c : Thread nD τ) none Set.univ) (Set.mem_univ _) () (O := owedR c n) (W := W) (R := 0) (m := 0) (T := ∅)
      (by rw [expect_of G (duties_recv G c kk hk) (amount_recv G c kk hk), Nat.zero_add, hN])) $$ [Hc HO Ha]
  · isplitr; · iapply (inv_recv G K c hk); iexact HR
    isplitl [Hc]; · iexact Hc
    isplitl [HO]; · iexact HO
    isplitr; · iapply (mayWait_owed c (.dma (recvS kk)) n (by omega) (by rw [lv_recv c kk hk]; omega)); iexact Hlev
    iexact Ha
  iintro ⟨HO, Ha, -, Hpay⟩
  ihave Hp := (Entails.of_eq (rest_of G (duties_recv G c kk hk) (payload_recv G c kk hk))) $$ Hpay
  imod (Rounds.cell_close ER (moeRd G) (Set.mem_univ (K (c, iR kk))) (fun h => h) (R := 0 + 1) (duties_later G (recvCell c kk))) $$ [Ha] with Hz
  · isplitr; · iapply (inv_recv G K c hk); iexact HR
    iexact Ha
  iapply Hk
  isplitl [HO]; · iexists _; iexact HO
  isplitl [Hz]; · iexact Hz
  iexact Hp

/-- The wait for the `k`-th sent copy, nothing owed. -/
theorem step_waitSend {Q : α → sProp 𝕄} {kk : ℕ} (hk : kk < 9) {sm : DmaSem sig} (hsm : sm = sendS kk)
    {sp sp' : Space} {s s' : Shape} {e e' : EltTy} {src : Memref sig .tc sp s e} {dst : Memref sig .tc sp' s' e'} {hsrc hdst}
    (hN : dst.view.dmaCredit = amt kk) {k : PUnit → Prog (TpuEff nD τ sig (Elt F) Λ₀ .tc) α} :
    iprop(records G K ∗ levAts L lv ∗ cred (tallyAt (sendCell c kk) () (amt kk)) ∗ atPos ER (sendCell c kk) 0 ∅ 0 ∗ owe c 0)
      ⊢ iprop((iprop(owe c 0 ∗ semVal (sendCell c kk) 0 ∗ sendPay G c kk) -∗ wpc c (k ⟨⟩) Q)
          -∗ wpc c (.op (.waitDma2 sm src dst hsrc hdst) k) Q) := by
  subst hsm
  unfold owe
  iintro ⟨#HR, #Hlev, Hc, Ha, ⟨%W, HO⟩⟩ Hk
  rw [← hN]
  iapply (Rounds.wp_wait_rest_token 𝒱₀ ER (moeRd G) (c : Thread nD τ) none (κ := K (c, iS kk))
      (wpE_waitDma2_eq 𝒱₀ (c : Thread nD τ) none Set.univ) (Set.mem_univ _) () (O := owedR c 0) (W := W) (R := 0) (m := 0) (T := ∅)
      (by rw [expect_of G (duties_send G c kk hk) (amount_send G c kk hk), Nat.zero_add, hN])) $$ [Hc HO Ha]
  · isplitr; · iapply (inv_send G K c hk); iexact HR
    isplitl [Hc]; · iexact Hc
    isplitl [HO]; · iexact HO
    isplitr
    · iapply (mayWait_owed c (.dma (sendS kk)) 0 (by omega)
        (by rw [lv_dsem c (sendS kk) (Or.inl (by unfold sendS; rw [dsem_val (by omega)]; omega))]; omega)); iexact Hlev
    iexact Ha
  iintro ⟨HO, Ha, -, Hpay⟩
  ihave Hp := (Entails.of_eq (rest_of G (duties_send G c kk hk) (payload_send G c kk hk))) $$ Hpay
  imod (Rounds.cell_close ER (moeRd G) (Set.mem_univ (K (c, iS kk))) (fun h => h) (R := 0 + 1) (duties_later G (sendCell c kk))) $$ [Ha] with Hz
  · isplitr; · iapply (inv_send G K c hk); iexact HR
    iexact Ha
  iapply Hk
  isplitl [HO]; · iexists _; iexact HO
  isplitl [Hz]; · iexact Hz
  iexact Hp

/-- A copy to the partner on cells `kk`, with `n` more to be sent after it: the source rows are lent, and what is written at
    the partner's is what the partner's buffer comes to hold there. -/
theorem step_send {Q : α → sProp 𝕄} {kk : ℕ} (hk : kk < 9) (n : ℕ) (hn : kk + n = 8) {p : Dev nD} (hp : p = pe c) {sS sR : DmaSem sig} (hsS : sS = sendS kk) (hsR : sR = recvS kk)
    {sp sp' : Space} {s : Shape} {e : EltTy} {src : Memref sig .tc sp s e} {dst : Memref sig .tc sp' s e} {hsc hsrc hdst hsem}
    {k : PUnit → Prog (TpuEff nD τ sig (Elt F) Λ₀ .tc) α} {Pd : sProp 𝕄}
    (fs : Buf (Elt F) (src.view.loc (c : Thread nD τ))) {fd : Buf (Elt F) (dst.view.loc (pe c : Thread nD τ))} (fd' : Buf (Elt F) (dst.view.loc (pe c : Thread nD τ)))
    (hN : dst.view.dmaCredit = amt kk)
    (hs : (src.view.loc (c : Thread nD τ) ↦[src.view.set]{fullShare} fs) = sendPay G c kk)
    (hd : (dst.view.loc (pe c : Thread nD τ) ↦[dst.view.set]{fullShare} fd) = Pd)
    (hd' : (dst.view.loc (pe c : Thread nD τ) ↦[dst.view.set]{fullShare} fd') = recvPay G (pe c) kk)
    (hw : ∀ x, fd' (dst.view.emb x) = _root_.cast (congrArg (Elt F) dst.view.elt_eq.symm) (src.view.read (Elt F) fs x)) :
    iprop(records G K ∗ sendPay G c kk ∗ Pd ∗ owe c (n + 1) ∗ tok c kk)
      ⊢ iprop((iprop(cred (tallyAt (sendCell c kk) () (amt kk)) ∗ owe c n) -∗ wpc c (k ⟨⟩) Q)
          -∗ wpc c (.op (.enqueueDma src (.remote (Dev.tc p : Thread nD τ) dst (.dma sS) hsc) (.dma sR) hsrc hdst hsem) k) Q) := by
  subst hp hsS hsR
  unfold owe tok
  iintro ⟨#HR, Hs, Hd, ⟨%W, HO⟩, Ht1, Ht2, #Hr1, #Hr2⟩ Hk
  subst hd
  iapply (Rounds.wp_send_pointsTo 𝒱₀ ER (moeRd G) (c : Thread nD τ) none (κ₁ := K (c, iS kk)) (κ₂ := K (pe c, iR kk))
    (r₁ := 0) (r₂ := 0) (d₁ := ()) (d₂ := ()) (fd := fd) (fs := fs) (q := fullShare)
    (by rw [duties_send G c kk hk]; exact Finset.mem_singleton_self _) (by rw [duties_recv G (pe c) kk hk]; exact Finset.mem_singleton_self _)
    () () (amt kk) (show dst.view.amount (.dma (recvS kk)) = amt kk from hN) (amount_send G c kk hk) (amount_recv G (pe c) kk hk) (owedR c n)
    (by show owedR c n + tallyAt (recvCell (pe c) (8 - n)) () (amt (8 - n)) = _
        rw [show 8 - n = kk by omega]) (W := W)
    (by rw [payload_send G c kk hk, hs])
    (by rw [payload_recv G (pe c) kk hk, pt_write (pe c) dst.view fd fd' _ hw, hd'])) $$ [Hs Hd HO Ht1 Ht2]
  · isplitr; · iapply (inv_send G K c hk); iexact HR
    isplitr; · iapply (inv_recv G K (pe c) hk); iexact HR
    isplitl [Hs]; · rw [hs]; iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  iapply Hk
  isplitl [Hc]; · iexact Hc
  iexists _; iexact HO

end Rules

end Cert.MoeProof

end
-- ==== Proof.Pieces.lean ====
/-
  The kernel's effects at the pieces of its own buffers: the experts' weights copied in, the packed rows and the results
  sent to the partner, with the contents each piece comes to hold.
-/
module

public import proofs.«01_k».proof.Proof.Steps

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The printed offsets -/

section Offsets
variable (c : Dev nD)
/-- The offset of the partner's half, by the partner's coordinate. -/
theorem off1 : k0_off1 c = ![576 * (1 - zc c), 0] := by
  rw [k0_off1_eq]; have h := zc_lt c
  show ![576 - 576 * zc c, 0] = _
  rw [show 576 - 576 * zc c = 576 * (1 - zc c) by omega]
/-- The offset of the partner's half. -/
theorem off1' : k0_off1 c = ![576 - 576 * zc c, 0] := k0_off1_eq c
/-- The offsets of the four stretches that go to the partner. -/
theorem off2 (r : Fin 4) : k0_off2 c (BitVec.ofNat 32 (144 * r.val)) = ![576 - 576 * zc c + 144 * r.val, 0] := by
  rw [k0_off2_eq]; have := zc_lt c
  show ![144 * r.val + 576 - 576 * zc c, 0] = _
  rw [show 144 * r.val + 576 - 576 * zc c = 576 - 576 * zc c + 144 * r.val by omega]
/-- The offset of the own half. -/
theorem off3 : k0_off3 c = ![576 * zc c, 0] := k0_off3_eq c
/-- The offsets of the two own experts' rows. -/
theorem off4 (r : Fin 2) : k0_off4 c (BitVec.ofNat 32 (288 * r.val)) = ![576 * zc c + 288 * r.val, 0] := k0_off4_eq c r
/-- The offsets at which the first three results land on the partner. -/
theorem off5 (r : Fin 3) : k0_off5 c (BitVec.ofNat 32 (144 * r.val)) = ![576 * zc c + qlo (4 + r.val), 0] := by
  rw [k0_off5_eq]; fin_cases r <;> rfl
/-- The offsets at which the two halves of the last result land on the partner. -/
theorem off6 (r : Fin 2) : k0_off6 c (BitVec.ofNat 32 (72 * r.val)) = ![576 * zc c + qlo (7 + r.val), 0] := by
  rw [k0_off6_eq]; fin_cases r <;> rfl
/-- The device that the copies and the signal name is the partner. -/
theorem dev_eq {n : ℕ} (h : n < nD) (e : n = (4 * (c.val / 4) + 2 * ((c.val / 2) % 2) + 1) - (c.val % 2)) : (⟨n, h⟩ : Dev nD) = pe c :=
  Fin.ext e
end Offsets

variable (G : Args F) (K : Dev nD × Fin 19 → ℕ)
variable {α : Type} (c : Dev nD)

/-! ## Pieces as views -/

omit [FloatOps F] in
/-- The elements of a slice of a whole buffer. -/
theorem piece_pt {b : Ref sig .tc} {r : Rect b.ty.shape} {hr} {S : Finset (Idx ((c : Thread nD τ).loc b))} (hS : r.set = S)
    (f : Buf (Elt F) ((c : Thread nD τ).loc b)) :
    ((((Memref.whole b).slice r hr).view.loc (c : Thread nD τ) ↦[((Memref.whole b).slice r hr).view.set]{fullShare} f) : sProp 𝕄) = pt c b S f := by
  subst hS
  have e : ((Memref.whole b).slice r hr).view.set = r.set := View.set_slice_whole b r
  rw [e]
omit [FloatOps F] in
/-- The elements of a slice of a whole buffer with its leading axis dropped. -/
theorem piece_sq_pt {b : Ref sig .tc} {r : Rect b.ty.shape} {hr} {s' : Shape} {sq} {S : Finset (Idx ((c : Thread nD τ).loc b))} (hS : r.set = S)
    (f : Buf (Elt F) ((c : Thread nD τ).loc b)) :
    (((((Memref.whole b).slice r hr).squeeze s' sq).view.loc (c : Thread nD τ)
        ↦[(((Memref.whole b).slice r hr).squeeze s' sq).view.set]{fullShare} f) : sProp 𝕄) = pt c b S f := by
  subst hS
  have e : (((Memref.whole b).slice r hr).squeeze s' sq).view.set = r.set := (View.set_reshape _ _).trans (View.set_slice_whole b r)
  rw [e]

/-! ## The experts' weights -/

/-- The copy of expert `e`'s first weights in flight. -/
def fl1 (e : ℕ) : sProp 𝕄 :=
  Transfers.Flight EC (c : Thread nD τ) (.dma (wcpS e)) () 262144
    iprop(pt c cc0_scratch4 (exp1At e) (G.w1 c) ∗ pt c main_arg2 (exp1At e) (G.w1 c))
/-- The copy of expert `e`'s second weights in flight. -/
def fl2 (e : ℕ) : sProp 𝕄 :=
  Transfers.Flight EC (c : Thread nD τ) (.dma (wcpS (2 + e))) () 262144
    iprop(pt c cc0_scratch5 (exp2At e) (G.w2 c) ∗ pt c main_arg3 (exp2At e) (G.w2 c))

/-- Starting the copy of an expert's first matrix. -/
theorem copy1 {Q : α → sProp 𝕄} (e : ℕ) {f} {sm : DmaSem sig} (hsm : sm = wcpS e) {inb inb' hr hr' sq sq' hsrc hdst hsem}
    {k : PUnit → Prog (TpuEff nD τ sig (Elt F) Λ₀ .tc) α} :
    iprop(pt c main_arg2 (exp1At e) (G.w1 c) ∗ pt c cc0_scratch4 (exp1At e) f ∗ semVal ((c : Thread nD τ), .dma (wcpS e)) 0)
      ⊢ iprop((fl1 G c e -∗ wpc c (k ⟨⟩) Q)
          -∗ wpc c (.op (.enqueueDma (((Memref.whole main_arg2).slice (Rect.unit (s := S2x1024x2048) ![e, 0, 0] S1x1024x2048.size inb) hr).squeeze S1024x2048 sq)
              (.here (((Memref.whole cc0_scratch4).slice (Rect.unit (s := S2x1024x2048) ![e, 0, 0] S1x1024x2048.size inb') hr').squeeze S1024x2048 sq'))
              (.dma sm) hsrc hdst hsem) k) Q) := by
  subst hsm
  refine step_copy c (fs := G.w1 c) (fd := f) (fd' := G.w1 c) 262144 rfl (by decide) ?_ ?_ ?_ (fun x => rfl)
  · exact piece_sq_pt c (b := main_arg2) (r := Rect.unit (s := S2x1024x2048) ![e, 0, 0] S1x1024x2048.size inb) (exp1_set inb) (G.w1 c)
  · exact piece_sq_pt c (b := cc0_scratch4) (r := Rect.unit (s := S2x1024x2048) ![e, 0, 0] S1x1024x2048.size inb') (exp1_set inb') f
  · exact piece_sq_pt c (b := cc0_scratch4) (r := Rect.unit (s := S2x1024x2048) ![e, 0, 0] S1x1024x2048.size inb') (exp1_set inb') (G.w1 c)

/-- Starting the copy of an expert's second matrix. -/
theorem copy2 {Q : α → sProp 𝕄} (e : ℕ) {f} {sm : DmaSem sig} (hsm : sm = wcpS (2 + e)) {inb inb' hr hr' sq sq' hsrc hdst hsem}
    {k : PUnit → Prog (TpuEff nD τ sig (Elt F) Λ₀ .tc) α} :
    iprop(pt c main_arg3 (exp2At e) (G.w2 c) ∗ pt c cc0_scratch5 (exp2At e) f ∗ semVal ((c : Thread nD τ), .dma (wcpS (2 + e))) 0)
      ⊢ iprop((fl2 G c e -∗ wpc c (k ⟨⟩) Q)
          -∗ wpc c (.op (.enqueueDma (((Memref.whole main_arg3).slice (Rect.unit (s := S2x2048x1024) ![e, 0, 0] S1x2048x1024.size inb) hr).squeeze S2048x1024 sq)
              (.here (((Memref.whole cc0_scratch5).slice (Rect.unit (s := S2x2048x1024) ![e, 0, 0] S1x2048x1024.size inb') hr').squeeze S2048x1024 sq'))
              (.dma sm) hsrc hdst hsem) k) Q) := by
  subst hsm
  refine step_copy c (fs := G.w2 c) (fd := f) (fd' := G.w2 c) 262144 rfl (by decide) ?_ ?_ ?_ (fun x => rfl)
  · exact piece_sq_pt c (b := main_arg3) (r := Rect.unit (s := S2x2048x1024) ![e, 0, 0] S1x2048x1024.size inb) (exp2_set inb) (G.w2 c)
  · exact piece_sq_pt c (b := cc0_scratch5) (r := Rect.unit (s := S2x2048x1024) ![e, 0, 0] S1x2048x1024.size inb') (exp2_set inb') f
  · exact piece_sq_pt c (b := cc0_scratch5) (r := Rect.unit (s := S2x2048x1024) ![e, 0, 0] S1x2048x1024.size inb') (exp2_set inb') (G.w2 c)

/-- The semaphores of the weights' copies come after those of the exchange. -/
theorem wcpS_le {k : ℕ} (hk : k < 4) : 20 ≤ (wcpS k).val := by unfold wcpS; rw [dsem_val (by omega)]; omega

/-- Waiting for an expert's first matrix. -/
theorem wait1 {Q : α → sProp 𝕄} (e : ℕ) (he : e < 2) (n : ℕ) (hn : n ≤ 9) {sm : DmaSem sig} (hsm : sm = wcpS e) {src : Memref sig .tc .hbm S1024x2048 .f32}
    {dst : Memref sig .tc .vmem S1024x2048 .f32} (hN : dst.view.dmaCredit = 262144) {hsrc hdst} {k : PUnit → Prog (TpuEff nD τ sig (Elt F) Λ₀ .tc) α} :
    iprop(levAts L lv ∗ fl1 G c e ∗ owe c n)
      ⊢ iprop((iprop(pt c cc0_scratch4 (exp1At e) (G.w1 c) ∗ pt c main_arg2 (exp1At e) (G.w1 c) ∗ semVal ((c : Thread nD τ), .dma (wcpS e)) 0 ∗ owe c n) -∗ wpc c (k ⟨⟩) Q)
          -∗ wpc c (.op (.waitDma2 sm src dst hsrc hdst) k) Q) := by
  subst hsm
  unfold fl1
  iintro H Hk
  iapply (step_waitCopy c n hn hN (wcpS_le (by omega))) $$ H
  iintro ⟨⟨H1, H2⟩, H3, H4⟩
  iapply Hk
  isplitl [H1]; · iexact H1
  isplitl [H2]; · iexact H2
  isplitl [H3]; · iexact H3
  iexact H4

/-- Waiting for an expert's second matrix. -/
theorem wait2 {Q : α → sProp 𝕄} (e : ℕ) (he : e < 2) (n : ℕ) (hn : n ≤ 9) {sm : DmaSem sig} (hsm : sm = wcpS (2 + e)) {src : Memref sig .tc .hbm S2048x1024 .f32}
    {dst : Memref sig .tc .vmem S2048x1024 .f32} (hN : dst.view.dmaCredit = 262144) {hsrc hdst} {k : PUnit → Prog (TpuEff nD τ sig (Elt F) Λ₀ .tc) α} :
    iprop(levAts L lv ∗ fl2 G c e ∗ owe c n)
      ⊢ iprop((iprop(pt c cc0_scratch5 (exp2At e) (G.w2 c) ∗ pt c main_arg3 (exp2At e) (G.w2 c) ∗ semVal ((c : Thread nD τ), .dma (wcpS (2 + e))) 0 ∗ owe c n) -∗ wpc c (k ⟨⟩) Q)
          -∗ wpc c (.op (.waitDma2 sm src dst hsrc hdst) k) Q) := by
  subst hsm
  unfold fl2
  iintro H Hk
  iapply (step_waitCopy c n hn hN (wcpS_le (by omega))) $$ H
  iintro ⟨⟨H1, H2⟩, H3, H4⟩
  iapply Hk
  isplitl [H1]; · iexact H1
  isplitl [H2]; · iexact H2
  isplitl [H3]; · iexact H3
  iexact H4

/-! ## The copies to the partner -/

/-- What a copy of 144 rows into a receive slot credits; -/
theorem credit_recv : sig.dmaCredit .tc (Kind.tc.table (.core .vmem)) cc0_scratch2.idx S144x1024 .bf16 = 9216 := rfl
/-- what a copy of 144 packed rows credits; -/
theorem credit_buf : sig.dmaCredit .tc (Kind.tc.table (.core .vmem)) cc0_scratch0.idx S144x1024 .bf16 = 9216 := rfl
/-- what a copy of results' rows credits; -/
theorem credit_y {kk m : ℕ} (hk4 : 4 ≤ kk) (hk : kk < 9) (hm : qn kk = m) :
    sig.dmaCredit .tc (Kind.tc.table (.core .vmem)) cc0_scratch1.idx (⟨2, ![m, 1024]⟩ : Shape) .bf16 = amt kk := by
  subst hm; obtain rfl | rfl | rfl | rfl | rfl : kk = 4 ∨ kk = 5 ∨ kk = 6 ∨ kk = 7 ∨ kk = 8 := by omega
  all_goals rfl
/-- and of the partner's tokens' results. -/
theorem credit_p {kk m : ℕ} (hk4 : 4 ≤ kk) (hk : kk < 9) (hm : qn kk = m) :
    sig.dmaCredit .tc (Kind.tc.table (.core .vmem)) cc0_scratch3.idx (⟨2, ![m, 1024]⟩ : Shape) .bf16 = amt kk := by
  subst hm; obtain rfl | rfl | rfl | rfl | rfl : kk = 4 ∨ kk = 5 ∨ kk = 6 ∨ kk = 7 ∨ kk = 8 := by omega
  all_goals rfl

/-- Packed rows sent: the `r`-th quarter of the partner's experts' rows, to the partner's receive slot `r`. -/
theorem send_lo {Q : α → sProp 𝕄} {f} {r : ℕ} (hr : r < 4) (n : ℕ) (hn : r + n = 8) {p : Dev nD} (hp : p = pe c) {sS sR : DmaSem sig} (hsS : sS = sendS r) (hsR : sR = recvS r)
    {off : Fin 2 → ℕ} (ho : off = ![576 - 576 * zc c + 144 * r, 0]) {inb inb' h1 h2 sq hsc hsrc hdst hsem}
    {k : PUnit → Prog (TpuEff nD τ sig (Elt F) Λ₀ .tc) α} :
    iprop(records G K ∗ pt c cc0_scratch0 (rowsAt (576 - 576 * zc c + 144 * r) 144) (bufOf G c) ∗ pt (pe c) cc0_scratch2 (slotAt r 0 144) f ∗ owe c (n + 1)
        ∗ tok c r)
      ⊢ iprop((iprop(cred (tallyAt (sendCell c r) () (amt r)) ∗ owe c n) -∗ wpc c (k ⟨⟩) Q)
          -∗ wpc c (.op (.enqueueDma ((Memref.whole cc0_scratch0).slice (Rect.unit (s := S1152x1024) off S144x1024.size inb) h1)
              (.remote (Dev.tc p : Thread nD τ) (((Memref.whole cc0_scratch2).slice (Rect.unit (s := S4x144x1024) ![r, 0, 0] S1x144x1024.size inb') h2).squeeze S144x1024 sq) (.dma sS) hsc)
              (.dma sR) hsrc hdst hsem) k) Q) := by
  have e : sendPay G c r = pt c cc0_scratch0 (rowsAt (576 - 576 * zc c + 144 * r) 144) (bufOf G c) := if_pos hr
  have e' : recvPay G (pe c) r = pt (pe c) cc0_scratch2 (slotAt r 0 144) (recvOf G (pe c)) := if_pos hr
  rw [← e]
  refine step_send G K c (kk := r) (by omega) n hn hp hsS hsR (bufOf G c) (fd := f) (recvOf G (pe c)) ?_ ?_ ?_ ?_ (fun x => ?_)
  · rw [show amt r = 9216 from if_pos (by omega)]
    exact credit_recv
  · exact (piece_pt c (b := cc0_scratch0) (r := Rect.unit (s := S1152x1024) off S144x1024.size inb) (rows_set ho inb) _).trans e.symm
  · exact piece_sq_pt (pe c) (b := cc0_scratch2) (r := Rect.unit (s := S4x144x1024) ![r, 0, 0] S1x144x1024.size inb') (slots_set inb') f
  · exact (piece_sq_pt (pe c) (b := cc0_scratch2) (r := Rect.unit (s := S4x144x1024) ![r, 0, 0] S1x144x1024.size inb') (slots_set inb') _).trans e'.symm
  · refine Eq.trans ?_ (recvOf_slot G c ho inb inb' x)
    exact congrArg (fun y => recvOf G (pe c) ((Rect.unit (s := S4x144x1024) ![r, 0, 0] S1x144x1024.size inb').emb y)) (squeeze_idx _ x)

/-- Results sent: a piece of slot `r` of the partner's tokens' results, to the partner's rows. -/
theorem send_hi {Q : α → sProp 𝕄} {f} {kk m : ℕ} (hk4 : 4 ≤ kk) (hk : kk < 9) (hm : qn kk = m) (n : ℕ) (hn : kk + n = 8) {p : Dev nD} (hp : p = pe c) {sS sR : DmaSem sig}
    (hsS : sS = sendS kk) (hsR : sR = recvS kk)
    {off : Fin 2 → ℕ} (ho : off = ![576 * zc c + qlo kk, 0]) {r lo : ℕ} (hr : qlo kk / 144 = r) (hlo : qlo kk % 144 = lo) {inb inb' h1 h2 sq hsc hsrc hdst hsem}
    {k : PUnit → Prog (TpuEff nD τ sig (Elt F) Λ₀ .tc) α} :
    iprop(records G K ∗ pt c cc0_scratch3 (slotAt r lo m) (pbufOf G c) ∗ pt (pe c) cc0_scratch1 (rowsAt (576 * zc c + qlo kk) m) f ∗ owe c (n + 1)
        ∗ tok c kk)
      ⊢ iprop((iprop(cred (tallyAt (sendCell c kk) () (amt kk)) ∗ owe c n) -∗ wpc c (k ⟨⟩) Q)
          -∗ wpc c (.op (.enqueueDma (((Memref.whole cc0_scratch3).slice (Rect.unit (s := S4x144x1024) ![r, lo, 0] (⟨3, ![1, m, 1024]⟩ : Shape).size inb') h2).squeeze (⟨2, ![m, 1024]⟩ : Shape) sq)
              (.remote (Dev.tc p : Thread nD τ) ((Memref.whole cc0_scratch1).slice (Rect.unit (s := S1152x1024) off (⟨2, ![m, 1024]⟩ : Shape).size inb) h1) (.dma sS) hsc)
              (.dma sR) hsrc hdst hsem) k) Q) := by
  have e : sendPay G c kk = pt c cc0_scratch3 (slotAt r lo m) (pbufOf G c) := by
    rw [← hr, ← hlo, ← hm]; exact if_neg (by omega)
  have e' : recvPay G (pe c) kk = pt (pe c) cc0_scratch1 (rowsAt (576 * zc c + qlo kk) m) (yOf G (pe c)) := by
    refine (if_neg (by omega)).trans ?_
    rw [hm, show 576 - 576 * zc (pe c) = 576 * zc c by rw [zc_pe]; have := zc_lt c; omega]
  rw [← e]
  refine step_send G K c (kk := kk) (by omega) n hn hp hsS hsR (pbufOf G c) (fd := f) (yOf G (pe c)) (credit_y hk4 hk hm) ?_ ?_ ?_ (fun x => ?_)
  · exact (piece_sq_pt c (b := cc0_scratch3) (r := Rect.unit (s := S4x144x1024) ![r, lo, 0] (⟨3, ![1, m, 1024]⟩ : Shape).size inb') (slots_set inb') _).trans e.symm
  · exact piece_pt (pe c) (b := cc0_scratch1) (r := Rect.unit (s := S1152x1024) off (⟨2, ![m, 1024]⟩ : Shape).size inb) (rows_set ho inb) f
  · exact (piece_pt (pe c) (b := cc0_scratch1) (r := Rect.unit (s := S1152x1024) off (⟨2, ![m, 1024]⟩ : Shape).size inb) (rows_set ho inb) _).trans e'.symm
  · refine (yOf_peer G c hk4 hk hm ho hr hlo inb inb' x).trans ?_
    exact (congrArg (fun y => pbufOf G c ((Rect.unit (s := S4x144x1024) ![r, lo, 0] (⟨3, ![1, m, 1024]⟩ : Shape).size inb').emb y)) (squeeze_idx _ x)).symm

end Cert.MoeProof

end
-- ==== Proof.Moves.lean ====
/-
  The loads and the stores of the kernel's body at its own buffers, and the waits for the copies between the partners.
-/
module

public import proofs.«01_k».proof.Proof.Pieces

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (G : Args F) (K : Dev nD × Fin 19 → ℕ)
variable {α : Type} (c : Dev nD)

/-! ## Whole buffers as rectangles -/

/-- The window of the whole matrix keeps every index. -/
theorem full_emb {n m : ℕ} (inb : ∀ a, (![0, 0] : Fin 2 → ℕ) a + (⟨2, ![n, m]⟩ : Shape).size a ≤ (⟨2, ![n, m]⟩ : Shape).size a) (j : (⟨2, ![n, m]⟩ : Shape).Idx) :
    (Rect.unit (s := (⟨2, ![n, m]⟩ : Shape)) ![0, 0] (⟨2, ![n, m]⟩ : Shape).size inb).emb j = j :=
  idx2_ext (by show 0 + 1 * (j 0).val = (j 0).val; omega) (by show 0 + 1 * (j 1).val = (j 1).val; omega)
/-- Its elements are all of the matrix. -/
theorem full_set {n m : ℕ} (inb : ∀ a, (![0, 0] : Fin 2 → ℕ) a + (⟨2, ![n, m]⟩ : Shape).size a ≤ (⟨2, ![n, m]⟩ : Shape).size a) :
    (Rect.unit (s := (⟨2, ![n, m]⟩ : Shape)) ![0, 0] (⟨2, ![n, m]⟩ : Shape).size inb).set = Finset.univ :=
  Finset.eq_univ_of_forall fun j => by
    rw [Rect.mem_set_unit]
    intro a
    refine ⟨?_, ?_⟩
    · refine Fin.cases ?_ (fun b => Fin.cases ?_ (fun z => z.elim0) b) a <;> exact Nat.zero_le _
    · refine lt_of_lt_of_le (j a).isLt (Nat.le_add_left _ _)

/-! ## Loads -/

section Loads
/-- Rows of the packed tokens; -/
theorem ld_buf {Q : α → sProp 𝕄} {off : Fin 2 → ℕ} {lo n : ℕ} (ho : off = ![lo, 0]) {inb hl} {S f} (hS : rowsAt lo n ⊆ S)
    {k : Vec F (⟨2, ![n, 1024]⟩ : Shape) .bf16 → Prog (TpuEff nD τ sig (Elt F) Λ₀ .tc) α} :
    pt c cc0_scratch0 S f ⊢ iprop((pt c cc0_scratch0 S f -∗ wpc c (k (rowBlk lo n f)) Q)
      -∗ wpc c (.op (.load (Memref.whole cc0_scratch0) (Rect.unit (s := S1152x1024) off (⟨2, ![n, 1024]⟩ : Shape).size inb).toLoadRect hl) k) Q) :=
  step_load c (cs := .vmem) (i := cc0_scratch0.idx) (hκ := cc0_scratch0.names) (r := Rect.unit (s := S1152x1024) off (⟨2, ![n, 1024]⟩ : Shape).size inb) (rowBlk lo n f) (by rw [rows_set ho inb]; exact hS) (rows_read ho inb f)
/-- of their results; -/
theorem ld_y {Q : α → sProp 𝕄} {off : Fin 2 → ℕ} {lo n : ℕ} (ho : off = ![lo, 0]) {inb hl} {S f} (hS : rowsAt lo n ⊆ S)
    {k : Vec F (⟨2, ![n, 1024]⟩ : Shape) .bf16 → Prog (TpuEff nD τ sig (Elt F) Λ₀ .tc) α} :
    pt c cc0_scratch1 S f ⊢ iprop((pt c cc0_scratch1 S f -∗ wpc c (k (rowBlk lo n f)) Q)
      -∗ wpc c (.op (.load (Memref.whole cc0_scratch1) (Rect.unit (s := S1152x1024) off (⟨2, ![n, 1024]⟩ : Shape).size inb).toLoadRect hl) k) Q) :=
  step_load c (cs := .vmem) (i := cc0_scratch1.idx) (hκ := cc0_scratch1.names) (r := Rect.unit (s := S1152x1024) off (⟨2, ![n, 1024]⟩ : Shape).size inb) (rowBlk lo n f) (by rw [rows_set ho inb]; exact hS) (rows_read ho inb f)
/-- of the selection matrix; -/
theorem ld_sel {Q : α → sProp 𝕄} {off : Fin 2 → ℕ} {lo n : ℕ} (ho : off = ![lo, 0]) {inb hl} {f}
    {k : Vec F (⟨2, ![n, 1024]⟩ : Shape) .bf16 → Prog (TpuEff nD τ sig (Elt F) Λ₀ .tc) α} :
    pt c cc0_scratch6 Finset.univ f ⊢ iprop((pt c cc0_scratch6 Finset.univ f -∗ wpc c (k (rowBlk lo n f)) Q)
      -∗ wpc c (.op (.load (Memref.whole cc0_scratch6) (Rect.unit (s := S1152x1024) off (⟨2, ![n, 1024]⟩ : Shape).size inb).toLoadRect hl) k) Q) :=
  step_load c (cs := .vmem) (i := cc0_scratch6.idx) (hκ := cc0_scratch6.names) (r := Rect.unit (s := S1152x1024) off (⟨2, ![n, 1024]⟩ : Shape).size inb) (rowBlk lo n f) (Finset.subset_univ _) (rows_read ho inb f)
/-- of a receive slot; -/
theorem ld_recv {Q : α → sProp 𝕄} {r lo n : ℕ} {inb hl} {S f} (hS : slotAt r lo n ⊆ S) {k : Vec F (⟨3, ![1, n, 1024]⟩ : Shape) .bf16 → Prog (TpuEff nD τ sig (Elt F) Λ₀ .tc) α} :
    pt c cc0_scratch2 S f ⊢ iprop((pt c cc0_scratch2 S f -∗ wpc c (k (slotBlk r lo n f)) Q)
      -∗ wpc c (.op (.load (Memref.whole cc0_scratch2) (Rect.unit (s := S4x144x1024) ![r, lo, 0] (⟨3, ![1, n, 1024]⟩ : Shape).size inb).toLoadRect hl) k) Q) :=
  step_load c (cs := .vmem) (i := cc0_scratch2.idx) (hκ := cc0_scratch2.names) (r := Rect.unit (s := S4x144x1024) ![r, lo, 0] (⟨3, ![1, n, 1024]⟩ : Shape).size inb) (slotBlk r lo n f) (by rw [slots_set inb]; exact hS) (slots_read inb f)
/-- of a slot of the partner's tokens' results; -/
theorem ld_p {Q : α → sProp 𝕄} {r lo n : ℕ} {inb hl} {f} {k : Vec F (⟨3, ![1, n, 1024]⟩ : Shape) .bf16 → Prog (TpuEff nD τ sig (Elt F) Λ₀ .tc) α} :
    pt c cc0_scratch3 (slotAt r lo n) f ⊢ iprop((pt c cc0_scratch3 (slotAt r lo n) f -∗ wpc c (k (slotBlk r lo n f)) Q)
      -∗ wpc c (.op (.load (Memref.whole cc0_scratch3) (Rect.unit (s := S4x144x1024) ![r, lo, 0] (⟨3, ![1, n, 1024]⟩ : Shape).size inb).toLoadRect hl) k) Q) :=
  step_load c (cs := .vmem) (i := cc0_scratch3.idx) (hκ := cc0_scratch3.names) (r := Rect.unit (s := S4x144x1024) ![r, lo, 0] (⟨3, ![1, n, 1024]⟩ : Shape).size inb) (slotBlk r lo n f) (by rw [slots_set inb]) (slots_read inb f)
/-- an expert's first weights; -/
theorem ld_w1 {Q : α → sProp 𝕄} (e : ℕ) {inb hl} {f} {k : Vec F S1x1024x2048 .f32 → Prog (TpuEff nD τ sig (Elt F) Λ₀ .tc) α} :
    pt c cc0_scratch4 (exp1At e) f ⊢ iprop((pt c cc0_scratch4 (exp1At e) f -∗ wpc c (k (expert1 e f)) Q)
      -∗ wpc c (.op (.load (Memref.whole cc0_scratch4) (Rect.unit (s := S2x1024x2048) ![e, 0, 0] S1x1024x2048.size inb).toLoadRect hl) k) Q) :=
  step_load c (cs := .vmem) (i := cc0_scratch4.idx) (hκ := cc0_scratch4.names) (r := Rect.unit (s := S2x1024x2048) ![e, 0, 0] S1x1024x2048.size inb) (expert1 e f) (by rw [exp1_set inb]) (exp1_read inb f)
/-- its second weights; -/
theorem ld_w2 {Q : α → sProp 𝕄} (e : ℕ) {inb hl} {f} {k : Vec F S1x2048x1024 .f32 → Prog (TpuEff nD τ sig (Elt F) Λ₀ .tc) α} :
    pt c cc0_scratch5 (exp2At e) f ⊢ iprop((pt c cc0_scratch5 (exp2At e) f -∗ wpc c (k (expert2 e f)) Q)
      -∗ wpc c (.op (.load (Memref.whole cc0_scratch5) (Rect.unit (s := S2x2048x1024) ![e, 0, 0] S1x2048x1024.size inb).toLoadRect hl) k) Q) :=
  step_load c (cs := .vmem) (i := cc0_scratch5.idx) (hκ := cc0_scratch5.names) (r := Rect.unit (s := S2x2048x1024) ![e, 0, 0] S1x2048x1024.size inb) (expert2 e f) (by rw [exp2_set inb]) (exp2_read inb f)
/-- the whole of the tokens' block, -/
theorem ld_x {Q : α → sProp 𝕄} {inb hl} {f} {k : Vec F S1024x1024 .bf16 → Prog (TpuEff nD τ sig (Elt F) Λ₀ .tc) α} :
    pt c cc0_stg0_0 Finset.univ f ⊢ iprop((pt c cc0_stg0_0 Finset.univ f -∗ wpc c (k f) Q)
      -∗ wpc c (.op (.load (Memref.whole cc0_stg0_0) (Rect.unit (s := S1024x1024) ![0, 0] S1024x1024.size inb).toLoadRect hl) k) Q) :=
  step_load c (cs := .vmem) (i := cc0_stg0_0.idx) (hκ := cc0_stg0_0.names) (r := Rect.unit (s := S1024x1024) ![0, 0] S1024x1024.size inb) f (Finset.subset_univ _) (funext fun j => congrArg f (full_emb inb j))
/-- of the assignment's, -/
theorem ld_a {Q : α → sProp 𝕄} {inb hl} {f} {k : Vec F S1024x1 .i32 → Prog (TpuEff nD τ sig (Elt F) Λ₀ .tc) α} :
    pt c cc0_stg1_0 Finset.univ f ⊢ iprop((pt c cc0_stg1_0 Finset.univ f -∗ wpc c (k f) Q)
      -∗ wpc c (.op (.load (Memref.whole cc0_stg1_0) (Rect.unit (s := S1024x1) ![0, 0] S1024x1.size inb).toLoadRect hl) k) Q) :=
  step_load c (cs := .vmem) (i := cc0_stg1_0.idx) (hκ := cc0_stg1_0.names) (r := Rect.unit (s := S1024x1) ![0, 0] S1024x1.size inb) f (Finset.subset_univ _) (funext fun j => congrArg f (full_emb inb j))
/-- and of the results' block. -/
theorem ld_o {Q : α → sProp 𝕄} {inb hl} {f} {k : Vec F S1024x1024 .f32 → Prog (TpuEff nD τ sig (Elt F) Λ₀ .tc) α} :
    pt c cc0_scratch7 Finset.univ f ⊢ iprop((pt c cc0_scratch7 Finset.univ f -∗ wpc c (k f) Q)
      -∗ wpc c (.op (.load (Memref.whole cc0_scratch7) (Rect.unit (s := S1024x1024) ![0, 0] S1024x1024.size inb).toLoadRect hl) k) Q) :=
  step_load c (cs := .vmem) (i := cc0_scratch7.idx) (hκ := cc0_scratch7.names) (r := Rect.unit (s := S1024x1024) ![0, 0] S1024x1024.size inb) f (Finset.subset_univ _) (funext fun j => congrArg f (full_emb inb j))

/-! ## Stores -/

/-- The whole selection matrix; -/
theorem st_sel {Q : α → sProp 𝕄} {inb hx hm} {f} (w : FVec F S1152x1024 .bf16) {k : PUnit → Prog (TpuEff nD τ sig (Elt F) Λ₀ .tc) α} :
    pt c cc0_scratch6 Finset.univ f ⊢ iprop((pt c cc0_scratch6 Finset.univ w -∗ wpc c (k ⟨⟩) Q)
      -∗ wpc c (.op (.store (Memref.whole cc0_scratch6) (Rect.unit (s := S1152x1024) ![0, 0] S1152x1024.size inb) w Finset.univ hx hm) k) Q) :=
  step_store c (cs := .vmem) (i := cc0_scratch6.idx) (hκ := cc0_scratch6.names) (r := Rect.unit (s := S1152x1024) ![0, 0] S1152x1024.size inb) w (full_set inb) (fun x => congrArg w (full_emb inb x))
/-- the whole block of results; -/
theorem st_o {Q : α → sProp 𝕄} {inb hx hm} {f} (w : FVec F S1024x1024 .f32) {k : PUnit → Prog (TpuEff nD τ sig (Elt F) Λ₀ .tc) α} :
    pt c cc0_scratch7 Finset.univ f ⊢ iprop((pt c cc0_scratch7 Finset.univ w -∗ wpc c (k ⟨⟩) Q)
      -∗ wpc c (.op (.store (Memref.whole cc0_scratch7) (Rect.unit (s := S1024x1024) ![0, 0] S1024x1024.size inb) w Finset.univ hx hm) k) Q) :=
  step_store c (cs := .vmem) (i := cc0_scratch7.idx) (hκ := cc0_scratch7.names) (r := Rect.unit (s := S1024x1024) ![0, 0] S1024x1024.size inb) w (full_set inb) (fun x => congrArg w (full_emb inb x))
/-- the packed tokens of one pair of experts; -/
theorem st_buf {Q : α → sProp 𝕄} {off : Fin 2 → ℕ} {lo h : ℕ} (ho : off = ![lo, 0]) (ho' : off = ![576 * h, 0]) {inb hx hm} {f} {k : PUnit → Prog (TpuEff nD τ sig (Elt F) Λ₀ .tc) α} :
    pt c cc0_scratch0 (rowsAt lo 576) f ⊢ iprop((pt c cc0_scratch0 (rowsAt lo 576) (bufOf G c) -∗ wpc c (k ⟨⟩) Q)
      -∗ wpc c (.op (.store (Memref.whole cc0_scratch0) (Rect.unit (s := S1152x1024) off S576x1024.size inb) (k0_pay12 (rowBlk (576 * h) 576 (selOf G c)) (G.x c)) Finset.univ hx hm) k) Q) :=
  step_store c (cs := .vmem) (i := cc0_scratch0.idx) (hκ := cc0_scratch0.names) (r := Rect.unit (s := S1152x1024) off S576x1024.size inb) (bufOf G c) (rows_set ho inb) (fun x => bufOf_rows G c ho' inb x)
/-- the results of the tokens of one of the device's own experts; -/
theorem st_y {Q : α → sProp 𝕄} {e : ℕ} (he : e < 2) {off : Fin 2 → ℕ} (ho : off = ![576 * zc c + 288 * e, 0]) {inb hx hm} {f} {k : PUnit → Prog (TpuEff nD τ sig (Elt F) Λ₀ .tc) α} :
    pt c cc0_scratch1 (rowsAt (576 * zc c + 288 * e) 288) f ⊢ iprop((pt c cc0_scratch1 (rowsAt (576 * zc c + 288 * e) 288) (yOf G c) -∗ wpc c (k ⟨⟩) Q)
      -∗ wpc c (.op (.store (Memref.whole cc0_scratch1) (Rect.unit (s := S1152x1024) off S288x1024.size inb)
          (k0_pay14 (rowBlk (576 * zc c + 288 * e) 288 (bufOf G c)) (expert1 e (G.w1 c)) (expert2 e (G.w2 c))) Finset.univ hx hm) k) Q) :=
  step_store c (cs := .vmem) (i := cc0_scratch1.idx) (hκ := cc0_scratch1.names) (r := Rect.unit (s := S1152x1024) off S288x1024.size inb) (yOf G c) (rows_set ho inb) (fun x => yOf_own G c he ho inb x)
/-- the results of a slot of the partner's tokens, -/
theorem st_p {Q : α → sProp 𝕄} {r : ℕ} (hr : r < 3) {inb hx hm} {f} {k : PUnit → Prog (TpuEff nD τ sig (Elt F) Λ₀ .tc) α} :
    pt c cc0_scratch3 (slotAt r 0 144) f ⊢ iprop((pt c cc0_scratch3 (slotAt r 0 144) (pbufOf G c) -∗ wpc c (k ⟨⟩) Q)
      -∗ wpc c (.op (.store (Memref.whole cc0_scratch3) (Rect.unit (s := S4x144x1024) ![r, 0, 0] S1x144x1024.size inb)
          (k0_pay15 (slotBlk r 0 144 (recvOf G c)) (expert1 (r / 2) (G.w1 c)) (expert2 (r / 2) (G.w2 c))) Finset.univ hx hm) k) Q) :=
  step_store c (cs := .vmem) (i := cc0_scratch3.idx) (hκ := cc0_scratch3.names) (r := Rect.unit (s := S4x144x1024) ![r, 0, 0] S1x144x1024.size inb) (pbufOf G c) (slots_set inb) (fun x => pbufOf_slot G c hr inb x)
/-- and of a half of the last slot. -/
theorem st_ph {Q : α → sProp 𝕄} (s : ℕ) {lo : ℕ} (hlo : 72 * s = lo) {inb hx hm} {f} {k : PUnit → Prog (TpuEff nD τ sig (Elt F) Λ₀ .tc) α} :
    pt c cc0_scratch3 (slotAt 3 lo 72) f ⊢ iprop((pt c cc0_scratch3 (slotAt 3 lo 72) (pbufOf G c) -∗ wpc c (k ⟨⟩) Q)
      -∗ wpc c (.op (.store (Memref.whole cc0_scratch3) (Rect.unit (s := S4x144x1024) ![3, lo, 0] S1x72x1024.size inb)
          (k0_pay20 (k0_pay19 (slotBlk 3 lo 72 (recvOf G c)) (expert1 1 (G.w1 c))) (expert2 1 (G.w2 c))) Finset.univ hx hm) k) Q) := by
  subst hlo
  exact step_store c (cs := .vmem) (i := cc0_scratch3.idx) (hκ := cc0_scratch3.names) (r := Rect.unit (s := S4x144x1024) ![3, 72 * s, 0] S1x72x1024.size inb) (pbufOf G c) (slots_set inb) (fun x => pbufOf_half G c inb x)

/-! ## Waits -/

/-- What the wait for the `k`-th landed copy needs. -/
def rtok (k : ℕ) : sProp 𝕄 := iprop(cred (tallyAt (recvCell c k) () (amt k)) ∗ atPos ER (recvCell c k) 0 ∅ 0)
/-- What the wait for the `k`-th sent copy needs. -/
def stok (k : ℕ) : sProp 𝕄 := iprop(cred (tallyAt (sendCell c k) () (amt k)) ∗ atPos ER (sendCell c k) 0 ∅ 0)

/-- A quarter of the partner's packed tokens has landed. -/
theorem wait_recv_lo {Q : α → sProp 𝕄} {r : ℕ} (hr : r < 4) (n : ℕ) (hn : r + n < 9) {sm : DmaSem sig} (hsm : sm = recvS r) {src : Memref sig .tc .vmem S144x1024 .bf16}
    {inb h sq hsrc hdst} {k : PUnit → Prog (TpuEff nD τ sig (Elt F) Λ₀ .tc) α} :
    iprop(records G K ∗ levAts L lv ∗ rtok c r ∗ owe c n)
      ⊢ iprop((iprop(owe c n ∗ semVal (recvCell c r) 0 ∗ pt c cc0_scratch2 (slotAt r 0 144) (recvOf G c)) -∗ wpc c (k ⟨⟩) Q)
          -∗ wpc c (.op (.waitDma2 sm src (((Memref.whole cc0_scratch2).slice (Rect.unit (s := S4x144x1024) ![r, 0, 0] S1x144x1024.size inb) h).squeeze S144x1024 sq) hsrc hdst) k) Q) := by
  have e : recvPay G c r = pt c cc0_scratch2 (slotAt r 0 144) (recvOf G c) := if_pos hr
  rw [← e]
  unfold rtok
  iintro ⟨HR, HL, ⟨Hc, Ha⟩, HO⟩
  iapply (step_waitRecv G K c (kk := r) (by omega) n hn hsm (dst := (((Memref.whole cc0_scratch2).slice (Rect.unit (s := S4x144x1024) ![r, 0, 0] S1x144x1024.size inb) h).squeeze S144x1024 sq))
    (credit_recv.trans (if_pos (by omega)).symm)) $$ [HR HL Hc Ha HO]
  iframe
/-- A piece of the results of the partner's experts has landed. -/
theorem wait_recv_hi {Q : α → sProp 𝕄} {kk m : ℕ} (hk4 : 4 ≤ kk) (hk : kk < 9) (hm : qn kk = m) {sm : DmaSem sig} (hsm : sm = recvS kk) {sp} {src : Memref sig .tc sp (⟨2, ![m, 1024]⟩ : Shape) .bf16}
    {off inb h hsrc hdst} {k : PUnit → Prog (TpuEff nD τ sig (Elt F) Λ₀ .tc) α} :
    iprop(records G K ∗ levAts L lv ∗ rtok c kk ∗ owe c 0)
      ⊢ iprop((iprop(owe c 0 ∗ semVal (recvCell c kk) 0 ∗ pt c cc0_scratch1 (rowsAt (576 - 576 * zc c + qlo kk) m) (yOf G c)) -∗ wpc c (k ⟨⟩) Q)
          -∗ wpc c (.op (.waitDma2 sm src ((Memref.whole cc0_scratch1).slice (Rect.unit (s := S1152x1024) off (⟨2, ![m, 1024]⟩ : Shape).size inb) h) hsrc hdst) k) Q) := by
  have e : recvPay G c kk = pt c cc0_scratch1 (rowsAt (576 - 576 * zc c + qlo kk) m) (yOf G c) := by rw [← hm]; exact if_neg (by omega)
  rw [← e]
  unfold rtok
  iintro ⟨HR, HL, ⟨Hc, Ha⟩, HO⟩
  iapply (step_waitRecv G K c (kk := kk) (by omega) 0 (by omega) hsm (dst := ((Memref.whole cc0_scratch1).slice (Rect.unit (s := S1152x1024) off (⟨2, ![m, 1024]⟩ : Shape).size inb) h))
    (credit_y hk4 hk hm)) $$ [HR HL Hc Ha HO]
  iframe
/-- A sent quarter of the packed tokens is given back. -/
theorem wait_send_lo {Q : α → sProp 𝕄} {r : ℕ} (hr : r < 4) {sm : DmaSem sig} (hsm : sm = sendS r) {sp} {src : Memref sig .tc sp S144x1024 .bf16}
    {off inb h hsrc hdst} {k : PUnit → Prog (TpuEff nD τ sig (Elt F) Λ₀ .tc) α} :
    iprop(records G K ∗ levAts L lv ∗ stok c r ∗ owe c 0)
      ⊢ iprop((iprop(owe c 0 ∗ semVal (sendCell c r) 0 ∗ pt c cc0_scratch0 (rowsAt (576 - 576 * zc c + 144 * r) 144) (bufOf G c)) -∗ wpc c (k ⟨⟩) Q)
          -∗ wpc c (.op (.waitDma2 sm src ((Memref.whole cc0_scratch0).slice (Rect.unit (s := S1152x1024) off S144x1024.size inb) h) hsrc hdst) k) Q) := by
  have e : sendPay G c r = pt c cc0_scratch0 (rowsAt (576 - 576 * zc c + 144 * r) 144) (bufOf G c) := if_pos hr
  rw [← e]
  unfold stok
  iintro ⟨HR, HL, ⟨Hc, Ha⟩, HO⟩
  iapply (step_waitSend G K c (kk := r) (by omega) hsm (dst := ((Memref.whole cc0_scratch0).slice (Rect.unit (s := S1152x1024) off S144x1024.size inb) h))
    (credit_buf.trans (if_pos (by omega)).symm)) $$ [HR HL Hc Ha HO]
  iframe
/-- A sent piece of the partner's tokens' results is given back. -/
theorem wait_send_hi {Q : α → sProp 𝕄} {kk m : ℕ} (hk4 : 4 ≤ kk) (hk : kk < 9) (hm : qn kk = m) {sm : DmaSem sig} (hsm : sm = sendS kk) {sp} {src : Memref sig .tc sp (⟨2, ![m, 1024]⟩ : Shape) .bf16}
    {r lo : ℕ} (hr : qlo kk / 144 = r) (hlo : qlo kk % 144 = lo) {inb h sq hsrc hdst} {k : PUnit → Prog (TpuEff nD τ sig (Elt F) Λ₀ .tc) α} :
    iprop(records G K ∗ levAts L lv ∗ stok c kk ∗ owe c 0)
      ⊢ iprop((iprop(owe c 0 ∗ semVal (sendCell c kk) 0 ∗ pt c cc0_scratch3 (slotAt r lo m) (pbufOf G c)) -∗ wpc c (k ⟨⟩) Q)
          -∗ wpc c (.op (.waitDma2 sm src (((Memref.whole cc0_scratch3).slice (Rect.unit (s := S4x144x1024) ![r, lo, 0] (⟨3, ![1, m, 1024]⟩ : Shape).size inb) h).squeeze (⟨2, ![m, 1024]⟩ : Shape) sq) hsrc hdst) k) Q) := by
  have e : sendPay G c kk = pt c cc0_scratch3 (slotAt r lo m) (pbufOf G c) := by rw [← hr, ← hlo, ← hm]; exact if_neg (by omega)
  rw [← e]
  unfold stok
  iintro ⟨HR, HL, ⟨Hc, Ha⟩, HO⟩
  iapply (step_waitSend G K c (kk := kk) (by omega) hsm
    (dst := (((Memref.whole cc0_scratch3).slice (Rect.unit (s := S4x144x1024) ![r, lo, 0] (⟨3, ![1, m, 1024]⟩ : Shape).size inb) h).squeeze (⟨2, ![m, 1024]⟩ : Shape) sq))
    (credit_p hk4 hk hm)) $$ [HR HL Hc Ha HO]
  iframe

/-! ## The result's copy out -/

/-- The copy of the results in flight. -/
def flo : sProp 𝕄 :=
  Transfers.Flight EC (c : Thread nD τ) (.dma outS) () 131072
    iprop(pt c main_v2 Finset.univ (outOf G c) ∗ pt c cc0_scratch7 Finset.univ (outOf G c))

omit [FloatOps F] in
/-- Owning a whole buffer through its reference is owning all its elements. -/
theorem whole_pt {b : Ref sig .tc} (f : Buf (Elt F) ((c : Thread nD τ).loc b)) :
    (((Memref.whole b).view.loc (c : Thread nD τ) ↦[(Memref.whole b).view.set]{fullShare} f) : sProp 𝕄) = pt c b Finset.univ f := by
  have e : (Memref.whole b).view.set = Finset.univ := View.set_whole b
  rw [e]

/-- Starting the copy of the result. -/
theorem copy_out {Q : α → sProp 𝕄} {sm : DmaSem sig} (hsm : sm = outS) {f hsrc hdst hsem} {k : PUnit → Prog (TpuEff nD τ sig (Elt F) Λ₀ .tc) α} :
    iprop(pt c cc0_scratch7 Finset.univ (outOf G c) ∗ pt c main_v2 Finset.univ f ∗ semVal ((c : Thread nD τ), .dma outS) 0)
      ⊢ iprop((flo G c -∗ wpc c (k ⟨⟩) Q)
          -∗ wpc c (.op (.enqueueDma (Memref.whole cc0_scratch7) (.here (Memref.whole main_v2)) (.dma sm) hsrc hdst hsem) k) Q) := by
  subst hsm
  unfold flo
  refine step_copy c (fs := outOf G c) (fd := f) (fd' := outOf G c) 131072 rfl (by decide) ?_ ?_ ?_ (fun x => rfl)
  · exact whole_pt c (b := cc0_scratch7) _
  · exact whole_pt c (b := main_v2) _
  · exact whole_pt c (b := main_v2) _

/-- Waiting for the copy of the result: the result array holds what the buffer held. -/
theorem wait_out {Q : α → sProp 𝕄} {sm : DmaSem sig} (hsm : sm = outS) {sp} {src : Memref sig .tc sp S1024x1024 .f32} {hsrc hdst} {k : PUnit → Prog (TpuEff nD τ sig (Elt F) Λ₀ .tc) α} :
    iprop(levAts L lv ∗ flo G c ∗ owe c 0)
      ⊢ iprop((iprop(pt c main_v2 Finset.univ (outOf G c) ∗ pt c cc0_scratch7 Finset.univ (outOf G c) ∗ semVal ((c : Thread nD τ), .dma outS) 0 ∗ owe c 0) -∗ wpc c (k ⟨⟩) Q)
          -∗ wpc c (.op (.waitDma2 sm src (Memref.whole main_v2) hsrc hdst) k) Q) := by
  subst hsm
  unfold flo
  iintro H Hk
  iapply (step_waitCopy c 0 (by omega) (dst := Memref.whole main_v2) (N := 131072) rfl (by unfold outS; rw [dsem_val (by omega)]; omega)) $$ H
  iintro ⟨⟨H1, H2⟩, H3, H4⟩
  iapply Hk
  iframe

end Loads

end Cert.MoeProof

end
-- ==== Proof.Parts.lean ====
/-
  The parts of the kernel's body, one rule each: what a part needs, and what it leaves for the next.
-/
module

public import proofs.«01_k».proof.Proof.Moves
public import Idealize.ShloMosaic.Lib.SparseCore.ProtocolKit

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A function of the kernel's operands, at the buffers the launch passes. -/
abbrev atBufs {β : Type 1} (f : (arg0 : Memref sig .tc .vmem S1024x1024 .bf16) → arg0.IsWhole → (arg1 : Memref sig .tc .vmem S1024x1 .i32) → arg1.IsWhole →
    (arg2 : Memref sig .tc .hbm S2x1024x2048 .f32) → arg2.IsWhole → (arg3 : Memref sig .tc .hbm S2x2048x1024 .f32) → arg3.IsWhole →
    (arg4 : Memref sig .tc .hbm S1024x1024 .f32) → arg4.IsWhole → (arg5 : Memref sig .tc .vmem S1152x1024 .bf16) → arg5.IsWhole →
    (arg6 : Memref sig .tc .vmem S1152x1024 .bf16) → arg6.IsWhole → (arg7 : Memref sig .tc .vmem S4x144x1024 .bf16) → arg7.IsWhole →
    (arg8 : Memref sig .tc .vmem S4x144x1024 .bf16) → arg8.IsWhole → (arg9 : Memref sig .tc .vmem S2x1024x2048 .f32) → arg9.IsWhole →
    (arg10 : Memref sig .tc .vmem S2x2048x1024 .f32) → arg10.IsWhole → (arg11 : Memref sig .tc .vmem S1152x1024 .bf16) → arg11.IsWhole →
    (arg12 : Memref sig .tc .vmem S1024x1024 .f32) → arg12.IsWhole →
    DmaSems sig S9 → DmaSems sig S9 → DmaSems sig S4 → DmaSems sig S_ → β) : β :=
  f (Memref.whole cc0_stg0_0) (Memref.isWhole_whole _) (Memref.whole cc0_stg1_0) (Memref.isWhole_whole _) (Memref.whole main_arg2) (Memref.isWhole_whole _)
    (Memref.whole main_arg3) (Memref.isWhole_whole _) (Memref.whole main_v2) (Memref.isWhole_whole _) (Memref.whole cc0_scratch0) (Memref.isWhole_whole _)
    (Memref.whole cc0_scratch1) (Memref.isWhole_whole _) (Memref.whole cc0_scratch2) (Memref.isWhole_whole _) (Memref.whole cc0_scratch3) (Memref.isWhole_whole _)
    (Memref.whole cc0_scratch4) (Memref.isWhole_whole _) (Memref.whole cc0_scratch5) (Memref.isWhole_whole _) (Memref.whole cc0_scratch6) (Memref.isWhole_whole _)
    (Memref.whole cc0_scratch7) (Memref.isWhole_whole _) cc0_scratch8 cc0_scratch9 cc0_scratch10 cc0_scratch11

variable (G : Args F) (K : Dev nD × Fin 19 → ℕ) (c : Dev nD)

/-- A program that returns at once meets what holds of its value. -/
theorem wpc_ret {α : Type} {Q : α → sProp 𝕄} (a : α) : Q a ⊢ wpc c (.ret a) Q := by
  iintro H
  unfold wpc
  rw [wp_ret]
  imodintro
  iexact H

/-- The credit the `k`-th sent copy leaves. -/
def scred (k : ℕ) : sProp 𝕄 := cred (tallyAt (sendCell c k) () (amt k))
/-- The semaphores of the weights' copies, at rest. -/
def wz (k : ℕ) : sProp 𝕄 := semVal ((c : Thread nD τ), .dma (wcpS k)) 0

/-! ## How the pieces of a buffer make it up -/

omit [FloatOps F] in
/-- Elements in two disjoint sets. -/
theorem pt_cut {b : Ref sig .tc} {S A B : Finset (Idx ((c : Thread nD τ).loc b))} (hd : Disjoint A B) (hu : A ∪ B = S) (f : Buf (Elt F) ((c : Thread nD τ).loc b)) :
    pt c b S f = iprop(pt c b A f ∗ pt c b B f) := by
  subst hu; exact BI.equiv_iff.mp ⟨(pointsTo_union hd).1, (pointsTo_union hd).2⟩

/-- Two consecutive stretches of rows have no row in common. -/
theorem rows_disj (lo n m : ℕ) : Disjoint (rowsAt lo n) (rowsAt (lo + n) m) :=
  Finset.disjoint_left.mpr fun i h1 h2 => by rw [mem_rowsAt] at h1 h2; omega
/-- Together they are one stretch. -/
theorem rows_union (lo n m : ℕ) : rowsAt lo n ∪ rowsAt (lo + n) m = rowsAt lo (n + m) := by
  ext i; rw [Finset.mem_union, mem_rowsAt, mem_rowsAt, mem_rowsAt]; omega

omit [FloatOps F] in
/-- The device's own experts' results, by expert. -/
theorem own_halves (f) : pt c cc0_scratch1 (rowsAt (576 * zc c) 576) f
    = (iprop(pt c cc0_scratch1 (rowsAt (576 * zc c + 288 * 0) 288) f ∗ pt c cc0_scratch1 (rowsAt (576 * zc c + 288 * 1) 288) f) : sProp 𝕄) :=
  pt_cut c (rows_disj _ 288 288) (rows_union _ 288 288) f
omit [FloatOps F] in
/-- Results' rows of a pair of experts, by the copies that carry them. -/
theorem peer_fifths (lo : ℕ) (f) : pt c cc0_scratch1 (rowsAt lo 576) f
    = (iprop(pt c cc0_scratch1 (rowsAt (lo + qlo 4) 144) f ∗ pt c cc0_scratch1 (rowsAt (lo + qlo 5) 144) f ∗ pt c cc0_scratch1 (rowsAt (lo + qlo 6) 144) f
        ∗ pt c cc0_scratch1 (rowsAt (lo + qlo 7) 72) f ∗ pt c cc0_scratch1 (rowsAt (lo + qlo 8) 72) f) : sProp 𝕄) := by
  rw [pt_cut c (rows_disj lo 144 432) (rows_union lo 144 432) f, pt_cut c (rows_disj (lo + 144) 144 288) (rows_union (lo + 144) 144 288) f,
    pt_cut c (rows_disj (lo + 144 + 144) 144 144) (rows_union (lo + 144 + 144) 144 144) f,
    pt_cut c (rows_disj (lo + 144 + 144 + 144) 72 72) (rows_union (lo + 144 + 144 + 144) 72 72) f]
  rfl

/-- The rows of one own expert lie in the own half. -/
theorem own_sub (e : ℕ) (he : e < 2) : rowsAt (576 * zc c + 288 * e) 288 ⊆ rowsAt (576 * zc c) 576 := fun i h => by
  rw [mem_rowsAt] at h ⊢; omega
/-- A half of the last slot lies in it. -/
theorem slot_sub (lo : ℕ) (h : lo + 72 ≤ 144) : slotAt 3 lo 72 ⊆ slotAt 3 0 144 := fun i h => by
  rw [mem_slotAt] at h ⊢; omega

/-! ## The parts -/

/-- Three of the four weight copies are started. -/
theorem part1 {Q : _ → sProp 𝕄} {f0 f1 f2} :
    iprop(pt c main_arg2 (exp1At 0) (G.w1 c) ∗ pt c cc0_scratch4 (exp1At 0) f0 ∗ wz c 0 ∗ pt c main_arg3 (exp2At 0) (G.w2 c) ∗ pt c cc0_scratch5 (exp2At 0) f2 ∗ wz c 2 ∗ pt c main_arg2 (exp1At 1) (G.w1 c) ∗ pt c cc0_scratch4 (exp1At 1) f1 ∗ wz c 1)
      ⊢ iprop((∀ v2 v5 v8 v9, iprop(fl1 G c 0 ∗ fl2 G c 0 ∗ fl1 G c 1) -∗ Q ⟨c, v2, v5, v8, v9⟩)
          -∗ wpc c (atBufs (k0_part1 (F := F))) Q) := by
  iintro ⟨Ha0, Hb0, Hs0, Ha2, Hb2, Hs2, Ha1, Hb1, Hs1⟩ Hk
  unfold wz
  simp only [atBufs, k0_part1_eq_skeleton]
  unfold k0_part1_skel
  simp only [Prog.lift, Prog.bind_op, Prog.bind_ret, Prog.pure_eq_ret, wp_deviceId]
  iapplyF (copy1 G c 0 (wcp_sem 0 _ _))
  iintro Hf0
  iapplyF (copy2 G c 0 (wcp_sem 2 _ _))
  iintro Hf1
  iapplyF (copy1 G c 1 (wcp_sem 1 _ _))
  iintro Hf2
  iapply (wpc_ret c)
  iapply Hk
  iclose

/-- The last weight copy is started; the barrier is passed; the assignment is read. -/
theorem part2 {Q : _ → sProp 𝕄} {f} {W} (v2 v5 v9 : BitVec 32) :
    iprop(records G K ∗ levAts L lv ∗ pt c main_arg3 (exp2At 1) (G.w2 c) ∗ pt c cc0_scratch5 (exp2At 1) f ∗ wz c 3 ∗ owes (c : Thread nD τ) (O₀ c) W ∗ dutyTok ER (barCell (pe c)) 0 () ∗ barPay (pe c) ∗ cred (tallyAt (barCell c) () 1) ∗ atPos ER (barCell c) 0 ∅ 0 ∗ pt c cc0_stg1_0 Finset.univ (G.a c))
      ⊢ iprop((iprop(fl2 G c 1 ∗ owe c 9 ∗ semVal (barCell c) 0 ∗ barPay c ∗ pt c cc0_stg1_0 Finset.univ (G.a c)) -∗ Q ⟨k0_pay1 (F := F) (G.a c), k0_pay2 (G.a c), k0_pay3 (F := F), k0_pay6 (G.a c), k0_pay7 (G.a c), k0_pay8 (G.a c), k0_pay9 (G.a c)⟩)
          -∗ wpc c (atBufs (k0_part2 (F := F)) c v2 v5 v9) Q) := by
  iintro ⟨#HR, #HL, Ha, Hb, Hs, HO, Ht, Hp, Hc, Hat, HA⟩ Hk
  unfold wz
  simp only [atBufs, k0_part2_eq_skeleton]
  unfold k0_part2_skel
  simp only [Prog.lift, Prog.bind_op, Prog.bind_ret, Prog.pure_eq_ret, wp_deviceId, semSignalWord, semWaitWord]
  iapplyF (copy2 G c 1 (wcp_sem 3 _ _))
  iintro Hf
  iapplyF (step_signal G K c (dev_eq c _ (k0_dev1_eq c)))
  iintro HO
  iapplyF (step_waitBar G K c)
  iintro ⟨HO, Hz, Hp⟩
  iapplyF (ld_a c)
  iintro HA
  iapply (wpc_ret c)
  iapply Hk
  iclose

/-- The selection matrix, and the packed tokens of the partner's experts. -/
theorem part4 {Q : _ → sProp 𝕄} {f g} (v2 v5 v8 : BitVec 32) :
    iprop(pt c cc0_scratch6 Finset.univ f ∗ pt c cc0_stg0_0 Finset.univ (G.x c) ∗ pt c cc0_scratch0 (rowsAt (576 - 576 * zc c) 576) g)
      ⊢ iprop((∀ v131 v133 v146 v147, iprop(pt c cc0_scratch6 Finset.univ (selOf G c) ∗ pt c cc0_stg0_0 Finset.univ (G.x c) ∗ pt c cc0_scratch0 (rowsAt (576 - 576 * zc c) 576) (bufOf G c)) -∗ Q ⟨v131, v133, v146, v147⟩)
          -∗ wpc c (atBufs (k0_part4 (F := F)) c v2 v5 v8 (k0_pay1 (F := F) (G.a c)) (rankOf (F := F) (G.a c))) Q) := by
  iintro ⟨HS, HX, HB⟩ Hk
  simp only [atBufs, k0_part4_eq_skeleton]
  unfold k0_part4_skel
  simp only [Prog.lift, Prog.bind_op, Prog.bind_ret, Prog.pure_eq_ret, wp_deviceId]
  iapplyF (ld_sel c (n := 1152) (lo := 0) rfl)
  iintro HS
  iapplyF (st_sel c (selOf G c))
  iintro HS
  iapplyF (ld_sel c (n := 576) (off1 c))
  iintro HS
  iapplyF (ld_x c)
  iintro HX
  iapplyF (ld_buf c (n := 576) (off1' c) (Finset.Subset.refl _))
  iintro HB
  iapplyF (st_buf G c (off1' c) (off1 c))
  iintro HB
  iapply (wpc_ret c)
  iapply Hk
  iclose

/-- Two quarters of the packed tokens are sent. -/
theorem part5 {Q : _ → sProp 𝕄} {f g} (v2 v5 v9 v131 v146 v147 : BitVec 32) :
    iprop(records G K ∗ levAts L lv ∗ pt c cc0_scratch0 (rowsAt (576 - 576 * zc c + 144 * 0) 144) (bufOf G c) ∗ pt (pe c) cc0_scratch2 (slotAt 0 0 144) f ∗ tok c 0 ∗ pt c cc0_scratch0 (rowsAt (576 - 576 * zc c + 144 * 1) 144) (bufOf G c) ∗ pt (pe c) cc0_scratch2 (slotAt 1 0 144) g ∗ tok c 1 ∗ owe c 9)
      ⊢ iprop((iprop(scred c 0 ∗ scred c 1 ∗ owe c 7) -∗ Q ⟨⟩)
          -∗ wpc c (atBufs (k0_part5 (F := F)) c v2 v5 v9 v131 v146 v147) Q) := by
  unfold scred
  iintro ⟨#HR, #HL, HB0, HP0, Ht0, HB1, HP1, Ht1, HO⟩ Hk
  simp only [atBufs, k0_part5_eq_skeleton]
  unfold k0_part5_skel
  simp only [Prog.lift, Prog.bind_op, Prog.bind_ret, Prog.pure_eq_ret, wp_deviceId]
  iapplyF (send_lo G K c (r := 0) (by decide) 8 (by decide) (dev_eq c _ (k0_dev2_eq c)) (send_sem 0 _ _) (recv_sem 0 _ _) (off2 c 0))
  iintro ⟨Hc0, HO⟩
  iapplyF (send_lo G K c (r := 1) (by decide) 7 (by decide) (dev_eq c _ (k0_dev3_eq c)) (send_sem 1 _ _) (recv_sem 1 _ _) (off2 c 1))
  iintro ⟨Hc1, HO⟩
  iapply (wpc_ret c)
  iapply Hk
  iclose

/-- The other two quarters are sent; the packed tokens of the device's own experts. -/
theorem part6 {Q : _ → sProp 𝕄} {f g h} (v2 v5 v9 v131 v133 : BitVec 32) :
    iprop(records G K ∗ levAts L lv ∗ pt c cc0_scratch0 (rowsAt (576 - 576 * zc c + 144 * 2) 144) (bufOf G c) ∗ pt (pe c) cc0_scratch2 (slotAt 2 0 144) f ∗ tok c 2 ∗ pt c cc0_scratch0 (rowsAt (576 - 576 * zc c + 144 * 3) 144) (bufOf G c) ∗ pt (pe c) cc0_scratch2 (slotAt 3 0 144) g ∗ tok c 3 ∗ owe c 7 ∗ pt c cc0_scratch6 Finset.univ (selOf G c) ∗ pt c cc0_stg0_0 Finset.univ (G.x c) ∗ pt c cc0_scratch0 (rowsAt (576 * zc c) 576) h)
      ⊢ iprop((iprop(scred c 2 ∗ scred c 3 ∗ owe c 5 ∗ pt c cc0_scratch6 Finset.univ (selOf G c) ∗ pt c cc0_stg0_0 Finset.univ (G.x c) ∗ pt c cc0_scratch0 (rowsAt (576 * zc c) 576) (bufOf G c)) -∗ Q ⟨⟩)
          -∗ wpc c (atBufs (k0_part6 (F := F)) c v2 v5 v9 v131 v133) Q) := by
  unfold scred
  iintro ⟨#HR, #HL, HB0, HP0, Ht0, HB1, HP1, Ht1, HO, HS, HX, HB⟩ Hk
  simp only [atBufs, k0_part6_eq_skeleton]
  unfold k0_part6_skel
  simp only [Prog.lift, Prog.bind_op, Prog.bind_ret, Prog.pure_eq_ret, wp_deviceId]
  iapplyF (send_lo G K c (r := 2) (by decide) 6 (by decide) (dev_eq c _ (k0_dev4_eq c)) (send_sem 2 _ _) (recv_sem 2 _ _) (off2 c 2))
  iintro ⟨Hc0, HO⟩
  iapplyF (send_lo G K c (r := 3) (by decide) 5 (by decide) (dev_eq c _ (k0_dev5_eq c)) (send_sem 3 _ _) (recv_sem 3 _ _) (off2 c 3))
  iintro ⟨Hc1, HO⟩
  iapplyF (ld_sel c (n := 576) (off3 c))
  iintro HS
  iapplyF (ld_x c)
  iintro HX
  iapplyF (ld_buf c (n := 576) (off3 c) (Finset.Subset.refl _))
  iintro HB
  iapplyF (st_buf G c (off3 c) (off3 c))
  iintro HB
  iapply (wpc_ret c)
  iapply Hk
  iclose

/-- The first expert's weights have landed; the results of its tokens. -/
theorem part7 {Q : _ → sProp 𝕄} {f} (v2 v5 v133 : BitVec 32) :
    iprop(records G K ∗ levAts L lv ∗ fl1 G c 0 ∗ fl2 G c 0 ∗ owe c 5 ∗ pt c cc0_scratch0 (rowsAt (576 * zc c) 576) (bufOf G c) ∗ pt c cc0_scratch1 (rowsAt (576 * zc c + 288 * 0) 288) f)
      ⊢ iprop((∀ v243 v1, iprop(pt c cc0_scratch4 (exp1At 0) (G.w1 c) ∗ pt c main_arg2 (exp1At 0) (G.w1 c) ∗ wz c 0 ∗ pt c cc0_scratch5 (exp2At 0) (G.w2 c) ∗ pt c main_arg3 (exp2At 0) (G.w2 c) ∗ wz c 2 ∗ owe c 5 ∗ pt c cc0_scratch0 (rowsAt (576 * zc c) 576) (bufOf G c) ∗ pt c cc0_scratch1 (rowsAt (576 * zc c + 288 * 0) 288) (yOf G c)) -∗ Q ⟨v243, v1⟩)
          -∗ wpc c (atBufs (k0_part7 (F := F)) c v2 v5 v133) Q) := by
  iintro ⟨#HR, #HL, Hf1, Hf2, HO, HB, HY⟩ Hk
  unfold wz
  simp only [atBufs, k0_part7_eq_skeleton]
  unfold k0_part7_skel
  simp only [Prog.lift, Prog.bind_op, Prog.bind_ret, Prog.pure_eq_ret, wp_deviceId]
  iapplyF (wait1 G c 0 (by decide) 5 (by decide) (wcp_sem 0 _ _) rfl)
  iintro ⟨HF1, HW1, Hz0, HO⟩
  iapplyF (wait2 G c 0 (by decide) 5 (by decide) (wcp_sem 2 _ _) rfl)
  iintro ⟨HF2, HW2, Hz2, HO⟩
  iapplyF (ld_buf c (n := 288) (off4 c 0) (own_sub c 0 (by decide)))
  iintro HB
  iapplyF (ld_w1 c 0)
  iintro HF1
  iapplyF (ld_w2 c 0)
  iintro HF2
  iapplyF (ld_y c (n := 288) (off4 c 0) (Finset.Subset.refl _))
  iintro HY
  iapplyF (st_y G c (e := 0) (by decide) (off4 c 0))
  iintro HY
  iapply (wpc_ret c)
  iapply Hk
  iclose

/-- The partner's first quarter has landed; its results. -/
theorem part8 {Q : _ → sProp 𝕄} {f} (v2 v5 v9 v133 v243 v1 : BitVec 32) :
    iprop(records G K ∗ levAts L lv ∗ rtok c 0 ∗ owe c 5 ∗ pt c cc0_scratch4 (exp1At 0) (G.w1 c) ∗ pt c cc0_scratch5 (exp2At 0) (G.w2 c) ∗ pt c cc0_scratch3 (slotAt 0 0 144) f)
      ⊢ iprop((iprop(semVal (recvCell c 0) 0 ∗ owe c 5 ∗ pt c cc0_scratch2 (slotAt 0 0 144) (recvOf G c) ∗ pt c cc0_scratch4 (exp1At 0) (G.w1 c) ∗ pt c cc0_scratch5 (exp2At 0) (G.w2 c) ∗ pt c cc0_scratch3 (slotAt 0 0 144) (pbufOf G c)) -∗ Q ⟨⟩)
          -∗ wpc c (atBufs (k0_part8 (F := F)) c v2 v5 v9 v133 v243 v1) Q) := by
  iintro ⟨#HR, #HL, Hr, HO, HF1, HF2, HP⟩ Hk
  simp only [atBufs, k0_part8_eq_skeleton]
  unfold k0_part8_skel
  simp only [Prog.lift, Prog.bind_op, Prog.bind_ret, Prog.pure_eq_ret, wp_deviceId]
  iapplyF (wait_recv_lo G K c (r := 0) (by decide) 5 (by decide) (recv_sem 0 _ _))
  iintro ⟨HO, Hz, HR0⟩
  iapplyF (ld_recv c (r := 0) (lo := 0) (n := 144) (Finset.Subset.refl _))
  iintro HR0
  iapplyF (ld_w1 c 0)
  iintro HF1
  iapplyF (ld_w2 c 0)
  iintro HF2
  iapplyF (ld_p c (r := 0) (lo := 0) (n := 144))
  iintro HP
  iapplyF (st_p G c (r := 0) (by decide))
  iintro HP
  iapply (wpc_ret c)
  iapply Hk
  iclose

/-- Those results are sent; the second quarter has landed, and its results are computed. -/
theorem part9 {Q : _ → sProp 𝕄} {f g} (v2 v5 v9 : BitVec 32) :
    iprop(records G K ∗ levAts L lv ∗ pt c cc0_scratch3 (slotAt 0 0 144) (pbufOf G c) ∗ pt (pe c) cc0_scratch1 (rowsAt (576 * zc c + qlo 4) 144) g ∗ tok c 4 ∗ owe c 5 ∗ rtok c 1 ∗ pt c cc0_scratch4 (exp1At 0) (G.w1 c) ∗ pt c cc0_scratch5 (exp2At 0) (G.w2 c) ∗ pt c cc0_scratch3 (slotAt 1 0 144) f)
      ⊢ iprop((∀ v304, iprop(scred c 4 ∗ semVal (recvCell c 1) 0 ∗ owe c 4 ∗ pt c cc0_scratch2 (slotAt 1 0 144) (recvOf G c) ∗ pt c cc0_scratch4 (exp1At 0) (G.w1 c) ∗ pt c cc0_scratch5 (exp2At 0) (G.w2 c) ∗ pt c cc0_scratch3 (slotAt 1 0 144) f) -∗ Q ⟨k0_pay16 (slotBlk 1 0 144 (recvOf G c)) (expert1 0 (G.w1 c)) (expert2 0 (G.w2 c)), v304⟩)
          -∗ wpc c (atBufs (k0_part9 (F := F)) c v2 v5 v9) Q) := by
  unfold scred
  iintro ⟨#HR, #HL, HP4, HPY, Ht, HO, Hr, HF1, HF2, HP⟩ Hk
  simp only [atBufs, k0_part9_eq_skeleton]
  unfold k0_part9_skel
  simp only [Prog.lift, Prog.bind_op, Prog.bind_ret, Prog.pure_eq_ret, wp_deviceId]
  iapplyF (send_hi G K c (kk := 4) (by decide) (by decide) (m := 144) rfl 4 (by decide) (dev_eq c _ (k0_dev6_eq c)) (send_sem 4 _ _) (recv_sem 4 _ _) (off5 c 0) (r := 0) (lo := 0) rfl rfl)
  iintro ⟨Hc, HO⟩
  iapplyF (wait_recv_lo G K c (r := 1) (by decide) 4 (by decide) (recv_sem 1 _ _))
  iintro ⟨HO, Hz, HR0⟩
  iapplyF (ld_recv c (r := 1) (lo := 0) (n := 144) (Finset.Subset.refl _))
  iintro HR0
  iapplyF (ld_w1 c 0)
  iintro HF1
  iapplyF (ld_w2 c 0)
  iintro HF2
  iapplyF (ld_p c (r := 1) (lo := 0) (n := 144))
  iintro HP
  iapply (wpc_ret c)
  iapply Hk
  iclose

/-- They are stored and sent; the second expert's weights have landed. -/
theorem part10 {Q : _ → sProp 𝕄} {f g} (v2 v5 v9 v133 : BitVec 32) (v304 : Vec F S1x144x1024 .bf16) :
    iprop(records G K ∗ levAts L lv ∗ pt c cc0_scratch3 (slotAt 1 0 144) f ∗ pt (pe c) cc0_scratch1 (rowsAt (576 * zc c + qlo 5) 144) g ∗ tok c 5 ∗ owe c 4 ∗ fl1 G c 1 ∗ fl2 G c 1)
      ⊢ iprop((iprop(scred c 5 ∗ owe c 3 ∗ pt c cc0_scratch4 (exp1At 1) (G.w1 c) ∗ pt c main_arg2 (exp1At 1) (G.w1 c) ∗ wz c 1 ∗ pt c cc0_scratch5 (exp2At 1) (G.w2 c) ∗ pt c main_arg3 (exp2At 1) (G.w2 c) ∗ wz c 3) -∗ Q ⟨⟩)
          -∗ wpc c (atBufs (k0_part10 (F := F)) c v2 v5 v9 v133 (k0_pay16 (slotBlk 1 0 144 (recvOf G c)) (expert1 0 (G.w1 c)) (expert2 0 (G.w2 c))) v304) Q) := by
  unfold scred
  iintro ⟨#HR, #HL, HP, HPY, Ht, HO, Hf1, Hf2⟩ Hk
  unfold wz
  simp only [atBufs, k0_part10_eq_skeleton]
  unfold k0_part10_skel
  simp only [Prog.lift, Prog.bind_op, Prog.bind_ret, Prog.pure_eq_ret, wp_deviceId]
  iapplyF (st_p G c (r := 1) (by decide))
  iintro HP
  iapplyF (send_hi G K c (kk := 5) (by decide) (by decide) (m := 144) rfl 3 (by decide) (dev_eq c _ (k0_dev7_eq c)) (send_sem 5 _ _) (recv_sem 5 _ _) (off5 c 1) (r := 1) (lo := 0) rfl rfl)
  iintro ⟨Hc, HO⟩
  iapplyF (wait1 G c 1 (by decide) 3 (by decide) (wcp_sem 1 _ _) rfl)
  iintro ⟨HF1, HW1, Hz0, HO⟩
  iapplyF (wait2 G c 1 (by decide) 3 (by decide) (wcp_sem 3 _ _) rfl)
  iintro ⟨HF2, HW2, Hz2, HO⟩
  iapply (wpc_ret c)
  iapply Hk
  iclose

/-- The third quarter has landed; its results. -/
theorem part11 {Q : _ → sProp 𝕄} {f} (v2 v5 v9 v133 : BitVec 32) :
    iprop(records G K ∗ levAts L lv ∗ rtok c 2 ∗ owe c 3 ∗ pt c cc0_scratch4 (exp1At 1) (G.w1 c) ∗ pt c cc0_scratch5 (exp2At 1) (G.w2 c) ∗ pt c cc0_scratch3 (slotAt 2 0 144) f)
      ⊢ iprop((∀ v, iprop(semVal (recvCell c 2) 0 ∗ owe c 3 ∗ pt c cc0_scratch2 (slotAt 2 0 144) (recvOf G c) ∗ pt c cc0_scratch4 (exp1At 1) (G.w1 c) ∗ pt c cc0_scratch5 (exp2At 1) (G.w2 c) ∗ pt c cc0_scratch3 (slotAt 2 0 144) (pbufOf G c)) -∗ Q v)
          -∗ wpc c (atBufs (k0_part11 (F := F)) c v2 v5 v9 v133) Q) := by
  iintro ⟨#HR, #HL, Hr, HO, HF1, HF2, HP⟩ Hk
  simp only [atBufs, k0_part11_eq_skeleton]
  unfold k0_part11_skel
  simp only [Prog.lift, Prog.bind_op, Prog.bind_ret, Prog.pure_eq_ret, wp_deviceId]
  iapplyF (wait_recv_lo G K c (r := 2) (by decide) 3 (by decide) (recv_sem 2 _ _))
  iintro ⟨HO, Hz, HR0⟩
  iapplyF (ld_recv c (r := 2) (lo := 0) (n := 144) (Finset.Subset.refl _))
  iintro HR0
  iapplyF (ld_w1 c 1)
  iintro HF1
  iapplyF (ld_w2 c 1)
  iintro HF2
  iapplyF (ld_p c (r := 2) (lo := 0) (n := 144))
  iintro HP
  iapplyF (st_p G c (r := 2) (by decide))
  iintro HP
  iapply (wpc_ret c)
  iapply Hk
  iclose

/-- They are sent; the last quarter has landed, and the first half of its results is begun. -/
theorem part12 {Q : _ → sProp 𝕄} {g} (v2 v5 v9 v1 : BitVec 32) :
    iprop(records G K ∗ levAts L lv ∗ pt c cc0_scratch3 (slotAt 2 0 144) (pbufOf G c) ∗ pt (pe c) cc0_scratch1 (rowsAt (576 * zc c + qlo 6) 144) g ∗ tok c 6 ∗ owe c 3 ∗ rtok c 3 ∗ pt c cc0_scratch4 (exp1At 1) (G.w1 c))
      ⊢ iprop((iprop(scred c 6 ∗ semVal (recvCell c 3) 0 ∗ owe c 2 ∗ pt c cc0_scratch2 (slotAt 3 0 144) (recvOf G c) ∗ pt c cc0_scratch4 (exp1At 1) (G.w1 c)) -∗ Q (k0_pay19 (slotBlk 3 0 72 (recvOf G c)) (expert1 1 (G.w1 c))))
          -∗ wpc c (atBufs (k0_part12 (F := F)) c v2 v5 v9 v1) Q) := by
  unfold scred
  iintro ⟨#HR, #HL, HP, HPY, Ht, HO, Hr, HF1⟩ Hk
  simp only [atBufs, k0_part12_eq_skeleton]
  unfold k0_part12_skel
  simp only [Prog.lift, Prog.bind_op, Prog.bind_ret, Prog.pure_eq_ret, wp_deviceId]
  iapplyF (send_hi G K c (kk := 6) (by decide) (by decide) (m := 144) rfl 2 (by decide) (dev_eq c _ (k0_dev8_eq c)) (send_sem 6 _ _) (recv_sem 6 _ _) (off5 c 2) (r := 2) (lo := 0) rfl rfl)
  iintro ⟨Hc, HO⟩
  iapplyF (wait_recv_lo G K c (r := 3) (by decide) 2 (by decide) (recv_sem 3 _ _))
  iintro ⟨HO, Hz, HR0⟩
  iapplyF (ld_recv c (r := 3) (lo := 0) (n := 72) (slot_sub 0 (by decide)))
  iintro HR0
  iapplyF (ld_w1 c 1)
  iintro HF1
  iapply (wpc_ret c)
  iapply Hk
  iclose

/-- The first half is finished and sent; the second half is begun. -/
theorem part13 {Q : _ → sProp 𝕄} {f g} (v2 v5 v9 v133 : BitVec 32) :
    iprop(records G K ∗ levAts L lv ∗ pt c cc0_scratch4 (exp1At 1) (G.w1 c) ∗ pt c cc0_scratch5 (exp2At 1) (G.w2 c) ∗ pt c cc0_scratch3 (slotAt 3 0 72) f ∗ pt (pe c) cc0_scratch1 (rowsAt (576 * zc c + qlo 7) 72) g ∗ tok c 7 ∗ owe c 2 ∗ pt c cc0_scratch2 (slotAt 3 0 144) (recvOf G c))
      ⊢ iprop((iprop(scred c 7 ∗ owe c 1 ∗ pt c cc0_scratch2 (slotAt 3 0 144) (recvOf G c) ∗ pt c cc0_scratch4 (exp1At 1) (G.w1 c) ∗ pt c cc0_scratch5 (exp2At 1) (G.w2 c)) -∗ Q (k0_pay21 (slotBlk 3 72 72 (recvOf G c)) (expert1 1 (G.w1 c))))
          -∗ wpc c (atBufs (k0_part13 (F := F)) c v2 v5 v9 v133 (k0_pay19 (slotBlk 3 0 72 (recvOf G c)) (expert1 1 (G.w1 c)))) Q) := by
  unfold scred
  iintro ⟨#HR, #HL, HF1, HF2, HP, HPY, Ht, HO, HR0⟩ Hk
  simp only [atBufs, k0_part13_eq_skeleton]
  unfold k0_part13_skel
  simp only [Prog.lift, Prog.bind_op, Prog.bind_ret, Prog.pure_eq_ret, wp_deviceId]
  iapplyF (ld_w2 c 1)
  iintro HF2
  iapplyF (ld_p c (r := 3) (lo := 0) (n := 72))
  iintro HP
  iapplyF (st_ph G c 0 (lo := 0) rfl)
  iintro HP
  iapplyF (send_hi G K c (kk := 7) (by decide) (by decide) (m := 72) rfl 1 (by decide) (dev_eq c _ (k0_dev9_eq c)) (send_sem 7 _ _) (recv_sem 7 _ _) (off6 c 0) (r := 3) (lo := 0) rfl rfl)
  iintro ⟨Hc, HO⟩
  iapplyF (ld_recv c (r := 3) (lo := 72) (n := 72) (slot_sub 72 (by decide)))
  iintro HR0
  iapplyF (ld_w1 c 1)
  iintro HF1
  iapply (wpc_ret c)
  iapply Hk
  iclose

/-- The second half is finished and sent; the second expert's results of the device's own tokens are begun. -/
theorem part14 {Q : _ → sProp 𝕄} {f g} (v2 v5 v9 v133 : BitVec 32) :
    iprop(records G K ∗ levAts L lv ∗ pt c cc0_scratch4 (exp1At 1) (G.w1 c) ∗ pt c cc0_scratch5 (exp2At 1) (G.w2 c) ∗ pt c cc0_scratch3 (slotAt 3 72 72) f ∗ pt (pe c) cc0_scratch1 (rowsAt (576 * zc c + qlo 8) 72) g ∗ tok c 8 ∗ owe c 1 ∗ pt c cc0_scratch0 (rowsAt (576 * zc c) 576) (bufOf G c))
      ⊢ iprop((iprop(scred c 8 ∗ owe c 0 ∗ pt c cc0_scratch0 (rowsAt (576 * zc c) 576) (bufOf G c) ∗ pt c cc0_scratch4 (exp1At 1) (G.w1 c) ∗ pt c cc0_scratch5 (exp2At 1) (G.w2 c)) -∗ Q ⟨k0_pay23 (rowBlk (576 * zc c + 288 * 1) 288 (bufOf G c)) (expert1 1 (G.w1 c)), expert2 1 (G.w2 c)⟩)
          -∗ wpc c (atBufs (k0_part14 (F := F)) c v2 v5 v9 v133 (k0_pay21 (slotBlk 3 72 72 (recvOf G c)) (expert1 1 (G.w1 c)))) Q) := by
  unfold scred
  iintro ⟨#HR, #HL, HF1, HF2, HP, HPY, Ht, HO, HB⟩ Hk
  simp only [atBufs, k0_part14_eq_skeleton]
  unfold k0_part14_skel
  simp only [Prog.lift, Prog.bind_op, Prog.bind_ret, Prog.pure_eq_ret, wp_deviceId]
  iapplyF (ld_w2 c 1)
  iintro HF2
  iapplyF (ld_p c (r := 3) (lo := 72) (n := 72))
  iintro HP
  iapplyF (st_ph G c 1 (lo := 72) rfl)
  iintro HP
  iapplyF (send_hi G K c (kk := 8) (by decide) (by decide) (m := 72) rfl 0 (by decide) (dev_eq c _ (k0_dev10_eq c)) (send_sem 8 _ _) (recv_sem 8 _ _) (off6 c 1) (r := 3) (lo := 72) rfl rfl)
  iintro ⟨Hc, HO⟩
  iapplyF (ld_buf c (n := 288) (off4 c 1) (own_sub c 1 (by decide)))
  iintro HB
  iapplyF (ld_w1 c 1)
  iintro HF1
  iapplyF (ld_w2 c 1)
  iintro HF2
  iapply (wpc_ret c)
  iapply Hk
  iclose

/-- They are finished; the device's own experts' share of the output; the first results have come back. -/
theorem part15 {Q : _ → sProp 𝕄} {f} (v2 v5 v9 v133 : BitVec 32) :
    iprop(records G K ∗ levAts L lv ∗ pt c cc0_scratch1 (rowsAt (576 * zc c + 288 * 0) 288) (yOf G c) ∗ pt c cc0_scratch1 (rowsAt (576 * zc c + 288 * 1) 288) f ∗ pt c cc0_scratch6 Finset.univ (selOf G c) ∗ rtok c 4 ∗ owe c 0)
      ⊢ iprop((iprop(pt c cc0_scratch1 (rowsAt (576 * zc c) 576) (yOf G c) ∗ pt c cc0_scratch6 Finset.univ (selOf G c) ∗ semVal (recvCell c 4) 0 ∗ owe c 0 ∗ pt c cc0_scratch1 (rowsAt (576 - 576 * zc c + qlo 4) 144) (yOf G c)) -∗ Q (k0_pay25 (rowBlk (576 * zc c) 576 (selOf G c)) (rowBlk (576 * zc c) 576 (yOf G c))))
          -∗ wpc c (atBufs (k0_part15 (F := F)) c v2 v5 v9 v133 (k0_pay23 (rowBlk (576 * zc c + 288 * 1) 288 (bufOf G c)) (expert1 1 (G.w1 c))) (expert2 1 (G.w2 c))) Q) := by
  iintro ⟨#HR, #HL, HY0, HY1, HS, Hr, HO⟩ Hk
  simp only [atBufs, k0_part15_eq_skeleton]
  unfold k0_part15_skel
  simp only [Prog.lift, Prog.bind_op, Prog.bind_ret, Prog.pure_eq_ret, wp_deviceId]
  iapplyF (ld_y c (n := 288) (off4 c 1) (Finset.Subset.refl _))
  iintro HY1
  iapplyF (st_y G c (e := 1) (by decide) (off4 c 1))
  iintro HY1
  ihave HY := (Entails.of_eq (own_halves c (yOf G c)).symm) $$ [HY0 HY1]
  · iclose
  iapplyF (ld_sel c (n := 576) (off3 c))
  iintro HS
  iapplyF (ld_y c (n := 576) (off3 c) (Finset.Subset.refl _))
  iintro HY
  iapplyF (wait_recv_hi G K c (kk := 4) (by decide) (by decide) (m := 144) rfl (recv_sem 4 _ _))
  iintro ⟨HO, Hz, HQ⟩
  iapply (wpc_ret c)
  iapply Hk
  iclose

/-- More of the results have come back. -/
theorem part16 {Q : _ → sProp 𝕄} (v2 v5 v9 : BitVec 32) :
    iprop(records G K ∗ levAts L lv ∗ rtok c 5 ∗ rtok c 6 ∗ rtok c 7 ∗ owe c 0)
      ⊢ iprop((∀ v516 v517, iprop(semVal (recvCell c 5) 0 ∗ semVal (recvCell c 6) 0 ∗ semVal (recvCell c 7) 0 ∗ owe c 0 ∗ pt c cc0_scratch1 (rowsAt (576 - 576 * zc c + qlo 5) 144) (yOf G c) ∗ pt c cc0_scratch1 (rowsAt (576 - 576 * zc c + qlo 6) 144) (yOf G c) ∗ pt c cc0_scratch1 (rowsAt (576 - 576 * zc c + qlo 7) 72) (yOf G c)) -∗ Q ⟨v516, v517⟩)
          -∗ wpc c (atBufs (k0_part16 (F := F)) c v2 v5 v9) Q) := by
  iintro ⟨#HR, #HL, Hr5, Hr6, Hr7, HO⟩ Hk
  simp only [atBufs, k0_part16_eq_skeleton]
  unfold k0_part16_skel
  simp only [Prog.lift, Prog.bind_op, Prog.bind_ret, Prog.pure_eq_ret, wp_deviceId]
  iapplyF (wait_recv_hi G K c (kk := 5) (by decide) (by decide) (m := 144) rfl (recv_sem 5 _ _))
  iintro ⟨HO, Hz5, HQ5⟩
  iapplyF (wait_recv_hi G K c (kk := 6) (by decide) (by decide) (m := 144) rfl (recv_sem 6 _ _))
  iintro ⟨HO, Hz6, HQ6⟩
  iapplyF (wait_recv_hi G K c (kk := 7) (by decide) (by decide) (m := 72) rfl (recv_sem 7 _ _))
  iintro ⟨HO, Hz7, HQ7⟩
  iapply (wpc_ret c)
  iapply Hk
  iclose

/-- All results are back; the output is complete and its copy out is started; two sent quarters are given back. -/
theorem part17 {Q : _ → sProp 𝕄} {f g} (v131 v516 v517 : BitVec 32) :
    iprop(records G K ∗ levAts L lv ∗ rtok c 8 ∗ pt c cc0_scratch1 (rowsAt (576 - 576 * zc c + qlo 4) 144) (yOf G c) ∗ pt c cc0_scratch1 (rowsAt (576 - 576 * zc c + qlo 5) 144) (yOf G c) ∗ pt c cc0_scratch1 (rowsAt (576 - 576 * zc c + qlo 6) 144) (yOf G c) ∗ pt c cc0_scratch1 (rowsAt (576 - 576 * zc c + qlo 7) 72) (yOf G c) ∗ owe c 0 ∗ pt c cc0_scratch6 Finset.univ (selOf G c) ∗ pt c cc0_scratch7 Finset.univ f ∗ pt c main_v2 Finset.univ g ∗ semVal ((c : Thread nD τ), .dma outS) 0 ∗ stok c 0 ∗ stok c 1)
      ⊢ iprop((iprop(semVal (recvCell c 8) 0 ∗ pt c cc0_scratch1 (rowsAt (576 - 576 * zc c) 576) (yOf G c) ∗ pt c cc0_scratch6 Finset.univ (selOf G c) ∗ flo G c ∗ semVal (sendCell c 0) 0 ∗ semVal (sendCell c 1) 0 ∗ pt c cc0_scratch0 (rowsAt (576 - 576 * zc c + 144 * 0) 144) (bufOf G c) ∗ pt c cc0_scratch0 (rowsAt (576 - 576 * zc c + 144 * 1) 144) (bufOf G c) ∗ owe c 0) -∗ Q ⟨⟩)
          -∗ wpc c (atBufs (k0_part17 (F := F)) c v131 (k0_pay25 (rowBlk (576 * zc c) 576 (selOf G c)) (rowBlk (576 * zc c) 576 (yOf G c))) v516 v517) Q) := by
  iintro ⟨#HR, #HL, Hr8, HQ4, HQ5, HQ6, HQ7, HO, HS, HT, Hout, Hsv, Hst0, Hst1⟩ Hk
  simp only [atBufs, k0_part17_eq_skeleton]
  unfold k0_part17_skel
  simp only [Prog.lift, Prog.bind_op, Prog.bind_ret, Prog.pure_eq_ret, wp_deviceId]
  iapplyF (wait_recv_hi G K c (kk := 8) (by decide) (by decide) (m := 72) rfl (recv_sem 8 _ _))
  iintro ⟨HO, Hz8, HQ8⟩
  ihave HY := (Entails.of_eq (peer_fifths c (576 - 576 * zc c) (yOf G c)).symm) $$ [HQ4 HQ5 HQ6 HQ7 HQ8]
  · iclose
  iapplyF (ld_sel c (n := 576) (off1' c))
  iintro HS
  iapplyF (ld_y c (n := 576) (off1' c) (Finset.Subset.refl _))
  iintro HY
  iapplyF (ld_o c)
  iintro HT
  iapplyF (st_o c (outOf G c))
  iintro HT
  iapplyF (copy_out G c out_sem)
  iintro HF
  iapplyF (wait_send_lo G K c (r := 0) (by decide) (send_sem 0 _ _))
  iintro ⟨HO, Hs0, HB0⟩
  iapplyF (wait_send_lo G K c (r := 1) (by decide) (send_sem 1 _ _))
  iintro ⟨HO, Hs1, HB1⟩
  iapply (wpc_ret c)
  iapply Hk
  iclose

/-- More of what was sent is given back. -/
theorem part18 {Q : _ → sProp 𝕄} :
    iprop(records G K ∗ levAts L lv ∗ owe c 0 ∗ stok c 2 ∗ stok c 3 ∗ stok c 4 ∗ stok c 5 ∗ stok c 6)
      ⊢ iprop((iprop(owe c 0 ∗ semVal (sendCell c 2) 0 ∗ semVal (sendCell c 3) 0 ∗ semVal (sendCell c 4) 0 ∗ semVal (sendCell c 5) 0 ∗ semVal (sendCell c 6) 0 ∗ pt c cc0_scratch0 (rowsAt (576 - 576 * zc c + 144 * 2) 144) (bufOf G c) ∗ pt c cc0_scratch0 (rowsAt (576 - 576 * zc c + 144 * 3) 144) (bufOf G c) ∗ pt c cc0_scratch3 (slotAt 0 0 144) (pbufOf G c) ∗ pt c cc0_scratch3 (slotAt 1 0 144) (pbufOf G c) ∗ pt c cc0_scratch3 (slotAt 2 0 144) (pbufOf G c)) -∗ Q ⟨⟩)
          -∗ wpc c (atBufs (k0_part18 (F := F)) c) Q) := by
  iintro ⟨#HR, #HL, HO, Hst2, Hst3, Hst4, Hst5, Hst6⟩ Hk
  simp only [atBufs, k0_part18_eq_skeleton]
  unfold k0_part18_skel
  simp only [Prog.lift, Prog.bind_op, Prog.bind_ret, Prog.pure_eq_ret, wp_deviceId]
  iapplyF (wait_send_lo G K c (r := 2) (by decide) (send_sem 2 _ _))
  iintro ⟨HO, Hs2, HB2⟩
  iapplyF (wait_send_lo G K c (r := 3) (by decide) (send_sem 3 _ _))
  iintro ⟨HO, Hs3, HB3⟩
  iapplyF (wait_send_hi G K c (kk := 4) (by decide) (by decide) (m := 144) rfl (send_sem 4 _ _) (r := 0) (lo := 0) rfl rfl)
  iintro ⟨HO, Hs4, HB4⟩
  iapplyF (wait_send_hi G K c (kk := 5) (by decide) (by decide) (m := 144) rfl (send_sem 5 _ _) (r := 1) (lo := 0) rfl rfl)
  iintro ⟨HO, Hs5, HB5⟩
  iapplyF (wait_send_hi G K c (kk := 6) (by decide) (by decide) (m := 144) rfl (send_sem 6 _ _) (r := 2) (lo := 0) rfl rfl)
  iintro ⟨HO, Hs6, HB6⟩
  iapply (wpc_ret c)
  iapply Hk
  iclose

end Cert.MoeProof

end
-- ==== Proof.Body.lean ====
/-
  The parts of the kernel's body, one rule each: what a part needs, and what it leaves for the next.
-/
module

public import proofs.«01_k».proof.Proof.Parts
public import Idealize.ShloMosaic.Lib.SparseCore.ProtocolKit

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (G : Args F) (K : Dev nD × Fin 19 → ℕ) (c : Dev nD)

/-! ## How whole buffers are made up -/

section Cuts
omit [FloatOps F]

/-- The own half and the partner's half of the packed rows have no row in common. -/
theorem halves_disj : Disjoint (rowsAt (576 * zc c) 576) (rowsAt (576 - 576 * zc c) 576) :=
  Finset.disjoint_left.mpr fun i h1 h2 => by rw [mem_rowsAt] at h1 h2; have := zc_lt c; omega
/-- Together they are all packed rows. -/
theorem halves_union : rowsAt (576 * zc c) 576 ∪ rowsAt (576 - 576 * zc c) 576 = Finset.univ := by
  ext i
  have h : (i 0).val < 1152 := (i 0).isLt
  have := zc_lt c
  simp only [Finset.mem_union, mem_rowsAt, Finset.mem_univ, iff_true]
  omega

/-- The packed tokens: the device's own experts' and the partner's. -/
theorem buf_halves (f) : pt c cc0_scratch0 Finset.univ f
    = (iprop(pt c cc0_scratch0 (rowsAt (576 * zc c) 576) f ∗ pt c cc0_scratch0 (rowsAt (576 - 576 * zc c) 576) f) : sProp 𝕄) :=
  pt_cut c (halves_disj c) (halves_union c) f
/-- The packed results, likewise. -/
theorem y_halves (f) : pt c cc0_scratch1 Finset.univ f
    = (iprop(pt c cc0_scratch1 (rowsAt (576 * zc c) 576) f ∗ pt c cc0_scratch1 (rowsAt (576 - 576 * zc c) 576) f) : sProp 𝕄) :=
  pt_cut c (halves_disj c) (halves_union c) f
/-- The partner's tokens, by the copies that carry them. -/
theorem quarters (lo : ℕ) (f) : pt c cc0_scratch0 (rowsAt lo 576) f
    = (iprop(pt c cc0_scratch0 (rowsAt (lo + 144 * 0) 144) f ∗ pt c cc0_scratch0 (rowsAt (lo + 144 * 1) 144) f
        ∗ pt c cc0_scratch0 (rowsAt (lo + 144 * 2) 144) f ∗ pt c cc0_scratch0 (rowsAt (lo + 144 * 3) 144) f) : sProp 𝕄) := by
  rw [pt_cut c (rows_disj lo 144 432) (rows_union lo 144 432) f, pt_cut c (rows_disj (lo + 144) 144 288) (rows_union (lo + 144) 144 288) f,
    pt_cut c (rows_disj (lo + 144 + 144) 144 144) (rows_union (lo + 144 + 144) 144 144) f]
  rfl

/-- Stretches of rows of different slots, or one after the other in one slot, have no row in common. -/
theorem slot_disj {r r' lo lo' n n' : ℕ} (h : r = r' → lo + n ≤ lo') : Disjoint (slotAt r lo n) (slotAt r' lo' n') :=
  Finset.disjoint_left.mpr fun i h1 h2 => by
    rw [mem_slotAt] at h1 h2; have := h (h1.1.symm.trans h2.1); omega
/-- The four slots are the whole buffer. -/
theorem slots_univ : slotAt 0 0 144 ∪ (slotAt 1 0 144 ∪ (slotAt 2 0 144 ∪ slotAt 3 0 144)) = Finset.univ := by
  ext i
  have h0 : (i 0).val < 4 := (i 0).isLt
  have h1 : (i 1).val < 144 := (i 1).isLt
  simp only [Finset.mem_union, mem_slotAt, Finset.mem_univ, iff_true]
  omega
/-- The first three slots and the two halves of the last are the whole buffer. -/
theorem slots_univ' : slotAt 0 0 144 ∪ (slotAt 1 0 144 ∪ (slotAt 2 0 144 ∪ (slotAt 3 0 72 ∪ slotAt 3 72 72))) = Finset.univ := by
  ext i
  have h0 : (i 0).val < 4 := (i 0).isLt
  have h1 : (i 1).val < 144 := (i 1).isLt
  simp only [Finset.mem_union, mem_slotAt, Finset.mem_univ, iff_true]
  omega
/-- The slots of a received buffer. -/
theorem recv_slots (f) : pt c cc0_scratch2 Finset.univ f
    = (iprop(pt c cc0_scratch2 (slotAt 0 0 144) f ∗ pt c cc0_scratch2 (slotAt 1 0 144) f ∗ pt c cc0_scratch2 (slotAt 2 0 144) f
        ∗ pt c cc0_scratch2 (slotAt 3 0 144) f) : sProp 𝕄) := by
  rw [pt_cut c (b := cc0_scratch2) (S := Finset.univ) (A := slotAt 0 0 144) (B := slotAt 1 0 144 ∪ (slotAt 2 0 144 ∪ slotAt 3 0 144)) ?_ ?_ f,
    pt_cut c (b := cc0_scratch2) (S := slotAt 1 0 144 ∪ (slotAt 2 0 144 ∪ slotAt 3 0 144)) (A := slotAt 1 0 144) (B := slotAt 2 0 144 ∪ slotAt 3 0 144) ?_ rfl f,
    pt_cut c (b := cc0_scratch2) (S := slotAt 2 0 144 ∪ slotAt 3 0 144) (A := slotAt 2 0 144) (B := slotAt 3 0 144) (slot_disj (by omega)) rfl f]
  · simp only [Finset.disjoint_union_right]; exact ⟨slot_disj (by omega), slot_disj (by omega)⟩
  · simp only [Finset.disjoint_union_right]; exact ⟨slot_disj (by omega), slot_disj (by omega), slot_disj (by omega)⟩
  · exact slots_univ
/-- The slots of the results to be sent, the last by halves. -/
theorem p_slots (f) : pt c cc0_scratch3 Finset.univ f
    = (iprop(pt c cc0_scratch3 (slotAt 0 0 144) f ∗ pt c cc0_scratch3 (slotAt 1 0 144) f ∗ pt c cc0_scratch3 (slotAt 2 0 144) f
        ∗ pt c cc0_scratch3 (slotAt 3 0 72) f ∗ pt c cc0_scratch3 (slotAt 3 72 72) f) : sProp 𝕄) := by
  rw [pt_cut c (b := cc0_scratch3) (S := Finset.univ) (A := slotAt 0 0 144) (B := slotAt 1 0 144 ∪ (slotAt 2 0 144 ∪ (slotAt 3 0 72 ∪ slotAt 3 72 72))) ?_ ?_ f,
    pt_cut c (b := cc0_scratch3) (S := slotAt 1 0 144 ∪ (slotAt 2 0 144 ∪ (slotAt 3 0 72 ∪ slotAt 3 72 72))) (A := slotAt 1 0 144) (B := slotAt 2 0 144 ∪ (slotAt 3 0 72 ∪ slotAt 3 72 72)) ?_ rfl f,
    pt_cut c (b := cc0_scratch3) (S := slotAt 2 0 144 ∪ (slotAt 3 0 72 ∪ slotAt 3 72 72)) (A := slotAt 2 0 144) (B := slotAt 3 0 72 ∪ slotAt 3 72 72) ?_ rfl f,
    pt_cut c (b := cc0_scratch3) (S := slotAt 3 0 72 ∪ slotAt 3 72 72) (A := slotAt 3 0 72) (B := slotAt 3 72 72) (slot_disj (by omega)) rfl f]
  · simp only [Finset.disjoint_union_right]; exact ⟨slot_disj (by omega), slot_disj (by omega)⟩
  · simp only [Finset.disjoint_union_right]; exact ⟨slot_disj (by omega), slot_disj (by omega), slot_disj (by omega)⟩
  · simp only [Finset.disjoint_union_right]; exact ⟨slot_disj (by omega), slot_disj (by omega), slot_disj (by omega), slot_disj (by omega)⟩
  · exact slots_univ'

/-- The two experts' first matrices have no element in common. -/
theorem exp1_disj : Disjoint (exp1At 0) (exp1At 1) := Finset.disjoint_left.mpr fun i h1 h2 => by rw [mem_exp1At] at h1 h2; omega
/-- The two experts' first matrices are the whole array. -/
theorem exp1_union : exp1At 0 ∪ exp1At 1 = Finset.univ := by
  ext i
  have h0 : (i 0).val < 2 := (i 0).isLt
  simp only [Finset.mem_union, mem_exp1At, Finset.mem_univ, iff_true]; omega
/-- The two experts' second matrices have no element in common. -/
theorem exp2_disj : Disjoint (exp2At 0) (exp2At 1) := Finset.disjoint_left.mpr fun i h1 h2 => by rw [mem_exp2At] at h1 h2; omega
/-- The two experts' second matrices are the whole array. -/
theorem exp2_union : exp2At 0 ∪ exp2At 1 = Finset.univ := by
  ext i
  have h0 : (i 0).val < 2 := (i 0).isLt
  simp only [Finset.mem_union, mem_exp2At, Finset.mem_univ, iff_true]; omega
/-- Owning the first weights is owning them expert by expert. -/
theorem w1_experts (f) : pt c main_arg2 Finset.univ f = (iprop(pt c main_arg2 (exp1At 0) f ∗ pt c main_arg2 (exp1At 1) f) : sProp 𝕄) :=
  pt_cut c exp1_disj exp1_union f
/-- The same of the buffer that receives them. -/
theorem w1f_experts (f) : pt c cc0_scratch4 Finset.univ f = (iprop(pt c cc0_scratch4 (exp1At 0) f ∗ pt c cc0_scratch4 (exp1At 1) f) : sProp 𝕄) :=
  pt_cut c exp1_disj exp1_union f
/-- Owning the second weights is owning them expert by expert. -/
theorem w2_experts (f) : pt c main_arg3 Finset.univ f = (iprop(pt c main_arg3 (exp2At 0) f ∗ pt c main_arg3 (exp2At 1) f) : sProp 𝕄) :=
  pt_cut c exp2_disj exp2_union f
/-- The same of the buffer that receives them. -/
theorem w2f_experts (f) : pt c cc0_scratch5 Finset.univ f = (iprop(pt c cc0_scratch5 (exp2At 0) f ∗ pt c cc0_scratch5 (exp2At 1) f) : sProp 𝕄) :=
  pt_cut c exp2_disj exp2_union f

/-- What a device hands its partner at the barrier: its received buffer, and the rows of results the partner fills. -/
theorem barPay_pe : barPay (F := F) (pe c)
    = (iprop((∃ f, pt c cc0_scratch2 Finset.univ f) ∗ (∃ g, pt c cc0_scratch1 (rowsAt (576 - 576 * zc c) 576) g) ∗ ready c) : sProp 𝕄) := by
  unfold barPay
  rw [pe_pe, zc_pe, Nat.mul_sub, Nat.mul_one]
/-- What it gets there. -/
theorem barPay_get : barPay (F := F) c ⊢ (iprop(∃ f g,
    (pt (pe c) cc0_scratch2 (slotAt 0 0 144) f ∗ pt (pe c) cc0_scratch2 (slotAt 1 0 144) f ∗ pt (pe c) cc0_scratch2 (slotAt 2 0 144) f
        ∗ pt (pe c) cc0_scratch2 (slotAt 3 0 144) f) ∗
    (pt (pe c) cc0_scratch1 (rowsAt (576 * zc c + qlo 4) 144) g ∗ pt (pe c) cc0_scratch1 (rowsAt (576 * zc c + qlo 5) 144) g
        ∗ pt (pe c) cc0_scratch1 (rowsAt (576 * zc c + qlo 6) 144) g ∗ pt (pe c) cc0_scratch1 (rowsAt (576 * zc c + qlo 7) 72) g
        ∗ pt (pe c) cc0_scratch1 (rowsAt (576 * zc c + qlo 8) 72) g) ∗ ready (pe c)) : sProp 𝕄) := by
  unfold barPay
  iintro ⟨⟨%f, H1⟩, ⟨%g, H2⟩, Hr⟩
  iexists f
  iexists g
  isplitl [H1]
  · iapply (Entails.of_eq (recv_slots (pe c) f)) $$ H1
  isplitr [Hr]
  rotate_left
  · iexact Hr
  · iapply (Entails.of_eq (peer_fifths (pe c) (576 * zc c) g)) $$ H2

end Cuts

/-! ## The body -/

/-- The launch's own scratch buffers, whatever they hold. -/
def scratch : sProp 𝕄 :=
  iprop((∃ f, pt c cc0_scratch0 Finset.univ f) ∗ (∃ f, pt c cc0_scratch1 Finset.univ f) ∗ (∃ f, pt c cc0_scratch2 Finset.univ f) ∗ (∃ f, pt c cc0_scratch3 Finset.univ f)
    ∗ (∃ f, pt c cc0_scratch4 Finset.univ f) ∗ (∃ f, pt c cc0_scratch5 Finset.univ f) ∗ (∃ f, pt c cc0_scratch6 Finset.univ f) ∗ ∃ f, pt c cc0_scratch7 Finset.univ f)
/-- The semaphores of the copies within a device, at rest. -/
def localSems : sProp 𝕄 := iprop(wz c 0 ∗ wz c 1 ∗ wz c 2 ∗ wz c 3 ∗ semVal ((c : Thread nD τ), .dma outS) 0)
/-- All semaphores at rest. -/
def restSems : sProp 𝕄 := iprop(semVal (barCell c) 0
    ∗ semVal (sendCell c 0) 0    ∗ semVal (sendCell c 1) 0    ∗ semVal (sendCell c 2) 0
    ∗ semVal (sendCell c 3) 0    ∗ semVal (sendCell c 4) 0    ∗ semVal (sendCell c 5) 0
    ∗ semVal (sendCell c 6) 0    ∗ semVal (sendCell c 7) 0    ∗ semVal (sendCell c 8) 0
    ∗ semVal (recvCell c 0) 0    ∗ semVal (recvCell c 1) 0    ∗ semVal (recvCell c 2) 0
    ∗ semVal (recvCell c 3) 0    ∗ semVal (recvCell c 4) 0    ∗ semVal (recvCell c 5) 0
    ∗ semVal (recvCell c 6) 0    ∗ semVal (recvCell c 7) 0    ∗ semVal (recvCell c 8) 0
    ∗ localSems c)
/-- The tokens that the `k`-th copy to the partner spends. -/
def duty (k : ℕ) : sProp 𝕄 := iprop(dutyTok ER (sendCell c k) 0 () ∗ dutyTok ER (recvCell (pe c) k) 0 ())
/-- Device `c`'s send cells are open. -/
def sendable : sProp 𝕄 := bigSep Finset.univ fun k : Fin 9 => reached ER (sendCell c k.val) 0
instance sendable_persistent : BI.Persistent (sendable (F := F) c) := by unfold sendable; infer_instance
omit [FloatOps F] in
/-- What a remote copy spends, put together. -/
theorem tok_intro (k : ℕ) (hk : k < 9) : iprop(duty c k ∗ sendable c ∗ ready (pe c)) ⊢ (tok (F := F) c k : sProp 𝕄) := by
  unfold duty tok sendable ready
  iintro ⟨⟨H1, H2⟩, #H3, #H4⟩
  isplitl [H1]; · iexact H1
  isplitl [H2]; · iexact H2
  isplitr
  · iapply (show (bigSep Finset.univ fun k : Fin 9 => (reached ER (sendCell c k.val) 0 : sProp 𝕄)) ⊢ reached ER (sendCell c k) 0 from bigSep_elim (Finset.mem_univ (⟨k, hk⟩ : Fin 9))) $$ H3
  · iapply (show (bigSep Finset.univ fun k : Fin 9 => (reached ER (recvCell (pe c) k.val) 0 : sProp 𝕄)) ⊢ reached ER (recvCell (pe c) k) 0 from bigSep_elim (Finset.mem_univ (⟨k, hk⟩ : Fin 9))) $$ H4
/-- The tokens and positions device `c` runs on. -/
def linear : sProp 𝕄 := iprop(dutyTok ER (barCell (pe c)) 0 () ∗ atPos ER (barCell c) 0 ∅ 0
    ∗ duty c 0    ∗ duty c 1    ∗ duty c 2    ∗ duty c 3    ∗ duty c 4    ∗ duty c 5    ∗ duty c 6    ∗ duty c 7    ∗ duty c 8
    ∗ atPos ER (sendCell c 0) 0 ∅ 0    ∗ atPos ER (sendCell c 1) 0 ∅ 0    ∗ atPos ER (sendCell c 2) 0 ∅ 0
    ∗ atPos ER (sendCell c 3) 0 ∅ 0    ∗ atPos ER (sendCell c 4) 0 ∅ 0    ∗ atPos ER (sendCell c 5) 0 ∅ 0
    ∗ atPos ER (sendCell c 6) 0 ∅ 0    ∗ atPos ER (sendCell c 7) 0 ∅ 0    ∗ atPos ER (sendCell c 8) 0 ∅ 0
    ∗ atPos ER (recvCell c 0) 0 ∅ 0    ∗ atPos ER (recvCell c 1) 0 ∅ 0    ∗ atPos ER (recvCell c 2) 0 ∅ 0
    ∗ atPos ER (recvCell c 3) 0 ∅ 0    ∗ atPos ER (recvCell c 4) 0 ∅ 0    ∗ atPos ER (recvCell c 5) 0 ∅ 0
    ∗ atPos ER (recvCell c 6) 0 ∅ 0    ∗ atPos ER (recvCell c 7) 0 ∅ 0    ∗ atPos ER (recvCell c 8) 0 ∅ 0
    ∗ sendable c ∗ ready c)
/-- The credits device `c` is dealt. -/
def credits : sProp 𝕄 := iprop(cred (tallyAt (barCell c) () 1)
    ∗ cred (tallyAt (recvCell c 0) () (amt 0))    ∗ cred (tallyAt (recvCell c 1) () (amt 1))    ∗ cred (tallyAt (recvCell c 2) () (amt 2))
    ∗ cred (tallyAt (recvCell c 3) () (amt 3))    ∗ cred (tallyAt (recvCell c 4) () (amt 4))    ∗ cred (tallyAt (recvCell c 5) () (amt 5))
    ∗ cred (tallyAt (recvCell c 6) () (amt 6))    ∗ cred (tallyAt (recvCell c 7) () (amt 7))    ∗ cred (tallyAt (recvCell c 8) () (amt 8)))
/-- The operands. -/
def operands (g : FVec F S1024x1024 .f32) : sProp 𝕄 :=
  iprop(pt c cc0_stg0_0 Finset.univ (G.x c) ∗ pt c cc0_stg1_0 Finset.univ (G.a c) ∗ pt c main_arg2 Finset.univ (G.w1 c) ∗ pt c main_arg3 Finset.univ (G.w2 c)
    ∗ pt c main_v2 Finset.univ g)

/-- What the wait for a landing spends, put together. -/
theorem rtok_intro (k : ℕ) : iprop(cred (tallyAt (recvCell c k) () (amt k)) ∗ atPos ER (recvCell c k) 0 ∅ 0) ⊢ (rtok (F := F) c k : sProp 𝕄) := Entails.refl _
/-- What the wait for a copy's departure spends, put together. -/
theorem stok_intro (k : ℕ) : iprop(scred c k ∗ atPos ER (sendCell c k) 0 ∅ 0) ⊢ (stok (F := F) c k : sProp 𝕄) := Entails.refl _

/-- The part of the body that finishes the rank computes `rankOf`. -/
theorem part3 {Q : _ → sProp 𝕄} (a : IVec S1024x1 32) :
    Q (rankOf (F := F) a) ⊢ wpc c (atBufs (k0_part3 (F := F)) (k0_pay2 (F := F) a) (k0_pay3 (F := F)) (k0_pay6 a) (k0_pay7 a) (k0_pay8 a) (k0_pay9 a)) Q := by
  simp only [atBufs, k0_part3_eq_skeleton]
  unfold k0_part3_skel
  exact wpc_ret c _

set_option maxHeartbeats 4000000 in
/-- The body, from its start to its end: the output array holds `outOf G c`. -/
theorem body {W} {g0} {Q : PUnit → sProp 𝕄} :
    iprop(records G K ∗ levAts L lv ∗ owes (c : Thread nD τ) (O₀ c) W ∗ linear c ∗ credits c ∗ operands G c g0 ∗ scratch c ∗ localSems c)
      ⊢ iprop((iprop(owe c 0 ∗ operands G c (outOf G c) ∗ scratch c ∗ restSems c) -∗ Q ⟨⟩) -∗ wpc c (atBufs (cc0_body (F := F))) Q) := by
  unfold linear credits operands scratch localSems
  iintro ⟨#HR, #HL, HO, ⟨HtB, HpB, Ht0, Ht1, Ht2, Ht3, Ht4, Ht5, Ht6, Ht7, Ht8, HpS0, HpS1, HpS2, HpS3, HpS4, HpS5, HpS6, HpS7, HpS8, HpR0, HpR1, HpR2, HpR3, HpR4, HpR5, HpR6, HpR7, HpR8, #HrS, #HrR⟩,
    ⟨HcB, HcR0, HcR1, HcR2, HcR3, HcR4, HcR5, HcR6, HcR7, HcR8⟩, ⟨HX, HA, HW1, HW2, HOut⟩,
    ⟨⟨%f0, H0⟩, ⟨%f1, H1⟩, H2, ⟨%f3, H3⟩, ⟨%f4, H4⟩, ⟨%f5, H5⟩, ⟨%f6, H6⟩, ⟨%f7, H7⟩⟩, Hz0, Hz1, Hz2, Hz3, HzO⟩ Hk
  irwh [buf_halves c f0] at H0
  irwh [y_halves c f1, own_halves c f1] at H1
  irwh [p_slots c f3] at H3
  irwh [w1_experts c (G.w1 c)] at HW1
  irwh [w2_experts c (G.w2 c)] at HW2
  irwh [w1f_experts c f4] at H4
  irwh [w2f_experts c f5] at H5
  icases H0 with ⟨HBO, HBP⟩
  icases H1 with ⟨⟨HY0, HY1⟩, HYP⟩
  icases H3 with ⟨HP4, HP5, HP6, HP7, HP8⟩
  icases HW1 with ⟨HW10, HW11⟩
  icases HW2 with ⟨HW20, HW21⟩
  icases H4 with ⟨HF10, HF11⟩
  icases H5 with ⟨HF20, HF21⟩
  ihave HbP := (Entails.of_eq (barPay_pe (F := F) c).symm) $$ [H2 HYP]
  · isplitl [H2]
    · iexact H2
    isplitl [HYP]
    · iexists f1
      iexact HYP
    · iexact HrR
  simp only [atBufs, cc0_body_eq_skeleton]
  unfold cc0_body_skel
  simp only [wpc, wp_bind]
  iapplyF (part1 G c)
  iintro %v2 %v5 %v8 %v9 ⟨Hfl10, Hfl20, Hfl11⟩
  iapplyF (part2 G K c v2 v5 v9)
  iintro ⟨Hfl21, HO, HzB, HbP, HA⟩
  ihave HbP := (barPay_get c) $$ HbP
  icases HbP with ⟨%fp, %gp, ⟨HS0, HS1, HS2, HS3⟩, ⟨HG4, HG5, HG6, HG7, HG8⟩, #HrP⟩
  ihave Ht0 := (tok_intro c 0 (by decide)) $$ [Ht0]
  · isplitl [Ht0]; · iexact Ht0
    isplitr; · iexact HrS
    iexact HrP
  ihave Ht1 := (tok_intro c 1 (by decide)) $$ [Ht1]
  · isplitl [Ht1]; · iexact Ht1
    isplitr; · iexact HrS
    iexact HrP
  ihave Ht2 := (tok_intro c 2 (by decide)) $$ [Ht2]
  · isplitl [Ht2]; · iexact Ht2
    isplitr; · iexact HrS
    iexact HrP
  ihave Ht3 := (tok_intro c 3 (by decide)) $$ [Ht3]
  · isplitl [Ht3]; · iexact Ht3
    isplitr; · iexact HrS
    iexact HrP
  ihave Ht4 := (tok_intro c 4 (by decide)) $$ [Ht4]
  · isplitl [Ht4]; · iexact Ht4
    isplitr; · iexact HrS
    iexact HrP
  ihave Ht5 := (tok_intro c 5 (by decide)) $$ [Ht5]
  · isplitl [Ht5]; · iexact Ht5
    isplitr; · iexact HrS
    iexact HrP
  ihave Ht6 := (tok_intro c 6 (by decide)) $$ [Ht6]
  · isplitl [Ht6]; · iexact Ht6
    isplitr; · iexact HrS
    iexact HrP
  ihave Ht7 := (tok_intro c 7 (by decide)) $$ [Ht7]
  · isplitl [Ht7]; · iexact Ht7
    isplitr; · iexact HrS
    iexact HrP
  ihave Ht8 := (tok_intro c 8 (by decide)) $$ [Ht8]
  · isplitl [Ht8]; · iexact Ht8
    isplitr; · iexact HrS
    iexact HrP
  iapply (part3 c)
  iapplyF (part4 G c v2 v5 v8)
  iintro %v131 %v133 %v146 %v147 ⟨H6, HX, HBP⟩
  irwh [quarters c (576 - 576 * zc c) (bufOf G c)] at HBP
  icases HBP with ⟨HB0, HB1, HB2, HB3⟩
  iapplyF (part5 G K c v2 v5 v9 v131 v146 v147)
  iintro ⟨Hc0, Hc1, HO⟩
  iapplyF (part6 G K c v2 v5 v9 v131 v133)
  iintro ⟨Hc2, Hc3, HO, H6, HX, HBO⟩
  iapplyF (part7 G K c v2 v5 v133)
  iintro %v243 %v1 ⟨HF10, HW10, Hz0, HF20, HW20, Hz2, HO, HBO, HY0⟩
  ihave HR0 := (rtok_intro c 0) $$ [HcR0 HpR0]
  · iclose
  iapplyF (part8 G K c v2 v5 v9 v133 v243 v1)
  iintro ⟨HzR0, HO, HL0, HF10, HF20, HP4⟩
  ihave HR1 := (rtok_intro c 1) $$ [HcR1 HpR1]
  · iclose
  iapplyF (part9 G K c v2 v5 v9)
  iintro %v304 ⟨Hc4, HzR1, HO, HL1, HF10, HF20, HP5⟩
  iapplyF (part10 G K c v2 v5 v9 v133 v304)
  iintro ⟨Hc5, HO, HF11, HW11, Hz1, HF21, HW21, Hz3⟩
  ihave HR2 := (rtok_intro c 2) $$ [HcR2 HpR2]
  · iclose
  iapplyF (part11 G K c v2 v5 v9 v133)
  iintro %v4 ⟨HzR2, HO, HL2, HF11, HF21, HP6⟩
  ihave HR3 := (rtok_intro c 3) $$ [HcR3 HpR3]
  · iclose
  iapplyF (part12 G K c v2 v5 v9 v4)
  iintro ⟨Hc6, HzR3, HO, HL3, HF11⟩
  iapplyF (part13 G K c v2 v5 v9 v133)
  iintro ⟨Hc7, HO, HL3, HF11, HF21⟩
  iapplyF (part14 G K c v2 v5 v9 v133)
  iintro ⟨Hc8, HO, HBO, HF11, HF21⟩
  ihave HR4 := (rtok_intro c 4) $$ [HcR4 HpR4]
  · iclose
  iapplyF (part15 G K c v2 v5 v9 v133)
  iintro ⟨HYO, H6, HzR4, HO, HQ4⟩
  ihave HR5 := (rtok_intro c 5) $$ [HcR5 HpR5]
  · iclose
  ihave HR6 := (rtok_intro c 6) $$ [HcR6 HpR6]
  · iclose
  ihave HR7 := (rtok_intro c 7) $$ [HcR7 HpR7]
  · iclose
  iapplyF (part16 G K c v2 v5 v9)
  iintro %v516 %v517 ⟨HzR5, HzR6, HzR7, HO, HQ5, HQ6, HQ7⟩
  ihave HR8 := (rtok_intro c 8) $$ [HcR8 HpR8]
  · iclose
  ihave HS0 := (stok_intro c 0) $$ [Hc0 HpS0]
  · iclose
  ihave HS1 := (stok_intro c 1) $$ [Hc1 HpS1]
  · iclose
  iapplyF (part17 G K c v131 v516 v517)
  iintro ⟨HzR8, HYP, H6, Hfo, HzS0, HzS1, HB0, HB1, HO⟩
  ihave HS2 := (stok_intro c 2) $$ [Hc2 HpS2]
  · iclose
  ihave HS3 := (stok_intro c 3) $$ [Hc3 HpS3]
  · iclose
  ihave HS4 := (stok_intro c 4) $$ [Hc4 HpS4]
  · iclose
  ihave HS5 := (stok_intro c 5) $$ [Hc5 HpS5]
  · iclose
  ihave HS6 := (stok_intro c 6) $$ [Hc6 HpS6]
  · iclose
  ihave HS7 := (stok_intro c 7) $$ [Hc7 HpS7]
  · iclose
  ihave HS8 := (stok_intro c 8) $$ [Hc8 HpS8]
  · iclose
  iapplyF (part18 G K c)
  iintro ⟨HO, HzS2, HzS3, HzS4, HzS5, HzS6, HB2, HB3, HP4, HP5, HP6⟩
  simp only [Prog.lift, Prog.bind_op, Prog.bind_ret, Prog.pure_eq_ret]
  iapplyF (wait_send_hi G K c (kk := 7) (by decide) (by decide) (m := 72) rfl (send_sem 7 _ _) (r := 3) (lo := 0) rfl rfl)
  iintro ⟨HO, HzS7, HP7⟩
  iapply (wpc_ret c)
  iapplyF (wait_send_hi G K c (kk := 8) (by decide) (by decide) (m := 72) rfl (send_sem 8 _ _) (r := 3) (lo := 72) rfl rfl)
  iintro ⟨HO, HzS8, HP8⟩
  iapply (wpc_ret c)
  iapplyF (wait_out G c out_sem)
  iintro ⟨HOut, H7, HzO, HO⟩
  iapply (wpc_ret c)
  iapply (wpc_ret c)
  ihave HBP := (Entails.of_eq (quarters c (576 - 576 * zc c) (bufOf G c)).symm) $$ [HB0 HB1 HB2 HB3]
  · iclose
  ihave H0 := (Entails.of_eq (buf_halves c (bufOf G c)).symm) $$ [HBO HBP]
  · iclose
  ihave H1 := (Entails.of_eq (y_halves c (yOf G c)).symm) $$ [HYO HYP]
  · iclose
  ihave H2 := (Entails.of_eq (recv_slots c (recvOf G c)).symm) $$ [HL0 HL1 HL2 HL3]
  · iclose
  ihave H3 := (Entails.of_eq (p_slots c (pbufOf G c)).symm) $$ [HP4 HP5 HP6 HP7 HP8]
  · iclose
  ihave HW1 := (Entails.of_eq (w1_experts c (G.w1 c)).symm) $$ [HW10 HW11]
  · iclose
  ihave HW2 := (Entails.of_eq (w2_experts c (G.w2 c)).symm) $$ [HW20 HW21]
  · iclose
  ihave H4 := (Entails.of_eq (w1f_experts c (G.w1 c)).symm) $$ [HF10 HF11]
  · iclose
  ihave H5 := (Entails.of_eq (w2f_experts c (G.w2 c)).symm) $$ [HF20 HF21]
  · iclose
  iapply Hk
  unfold restSems localSems
  isplitl [HO]; · iexact HO
  isplitl [HX HA HW1 HW2 HOut]; · iclose
  isplitl [H0 H1 H2 H3 H4 H5 H6 H7]
  · isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    iexists _; iexact H7
  iclose

end Cert.MoeProof

end
-- ==== Proof.Region.lean ====
/-
  The kernel as one region of the host program: what a device brings to it, what it leaves, and the proof that the body
  does so. The semaphores of the copies between partners belong to the region, so their cells are opened on entering it.
-/
module

public import proofs.«01_k».proof.Proof.Body
public import proofs.«01_k».proof.Proof.Gen.KernelIdeal.Frame
public import proofs.«01_k».proof.Proof.Gen.KernelIdeal.Launch
public import proofs.«01_k».proof.Proof.Gen.KernelIdeal.Points
public import Idealize.ShloMosaic.Lib.Pipeline.RegionTalk
public import Idealize.ShloMosaic.Lib.SparseCore.ProtocolKit

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The operands of a memory -/

/-- The values the devices' arguments hold, the ids as the host reshapes them. -/
def args : Args F where
  x c := m ((c : Thread nD τ).loc main_arg0)
  a c := V m c main_v1
  w1 c := m ((c : Thread nD τ).loc main_arg2)
  w2 c := m ((c : Thread nD τ).loc main_arg3)

/-- The buffers on entering the kernel. -/
def Wi (c : Dev nD) : Valuation τ sig (Elt F) := StableHlo.after hostOps0 (fun b => m (c, b))
/-- The buffers on leaving it. -/
def Wo (c : Dev nD) : Valuation τ sig (Elt F) := Function.update (Wi m c) (Proc.devRef .tc main_v2) (outOf (args m) c)

/-- The tokens, as at the start. -/
theorem Wi_arg0 (c : Dev nD) : Wi m c (Proc.devRef .tc main_arg0) = m ((c : Thread nD τ).loc main_arg0) := V_main_arg0 m c
/-- The entries of `assign`, as at the start. -/
theorem Wi_arg1 (c : Dev nD) : Wi m c (Proc.devRef .tc main_arg1) = m ((c : Thread nD τ).loc main_arg1) := V_main_arg1 m c
/-- The first weights, as at the start. -/
theorem Wi_arg2 (c : Dev nD) : Wi m c (Proc.devRef .tc main_arg2) = m ((c : Thread nD τ).loc main_arg2) := V_main_arg2 m c
/-- The second weights, as at the start. -/
theorem Wi_arg3 (c : Dev nD) : Wi m c (Proc.devRef .tc main_arg3) = m ((c : Thread nD τ).loc main_arg3) := V_main_arg3 m c
/-- The result array holds the result. -/
theorem Wo_v2 (c : Dev nD) : Wo m c (Proc.devRef .tc main_v2) = outOf (args m) c := Function.update_self ..
/-- Nothing else has changed. -/
theorem Wo_ne (c : Dev nD) (b : Ref sig .tc) (h : (Proc.devRef .tc b : DevRef τ sig) ≠ Proc.devRef .tc main_v2) :
    Wo m c (Proc.devRef .tc b) = Wi m c (Proc.devRef .tc b) := Function.update_of_ne h ..

/-! ## Families of nine -/

omit [FloatOps F] in
/-- A family over nine positions, written out. -/
theorem nine (Φ : ℕ → sProp 𝕄) : bigSep Finset.univ (fun k : Fin 9 => Φ k.val)
    = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) (fun k : Fin 9 => Φ k.val)

/-- The region's own semaphores: those of the copies sent, of the copies landed, and of the copies within the device. -/
abbrev osem : Fin 9 ⊕ (Fin 9 ⊕ Fin 5) → SemLoc sig
  | .inl k => .dma (sendS k.val)
  | .inr (.inl k) => .dma (recvS k.val)
  | .inr (.inr k) => .dma (dsem (20 + k.val))

/-- The region's own semaphores are not those of its staged copies. -/
theorem ownSemFacts : Pipeline.OwnSemFacts spec0 osem := by decide

/-- The region's own semaphores at rest, by kind. -/
theorem ownSems_eq (c : Dev nD) : (Pipeline.ownSems0 osem c : sProp 𝕄)
    = iprop((bigSep Finset.univ fun k : Fin 9 => semVal (sendCell c k.val) 0) ∗ (bigSep Finset.univ fun k : Fin 9 => semVal (recvCell c k.val) 0)
        ∗ localSems c) := by
  have h : (bigSep Finset.univ fun k : Fin 5 => (semVal ((c : Thread nD τ), .dma (dsem (20 + k.val))) 0 : sProp 𝕄)) = localSems c :=
    bigSep_univ_eq_bigSepL [0, 1, 2, 3, 4] (by decide) (by decide) _
  rw [← h]
  unfold Pipeline.ownSems0
  rw [bigSep_univ_sum, bigSep_univ_sum]
  rfl

/-! ## What a device brings, and what the entry makes of it -/

/-- The tokens and rights device `c` is dealt, its cells of copies still unopened. -/
def dealt (c : Dev nD) : sProp 𝕄 := iprop(dutyTok ER (barCell (pe c)) 0 () ∗ atPos ER (barCell c) 0 ∅ 0
    ∗ (bigSep Finset.univ fun k : Fin 9 => duty c k.val)
    ∗ (bigSep Finset.univ fun k : Fin 9 => openTok ER (sendCell c k.val)) ∗ bigSep Finset.univ fun k : Fin 9 => openTok ER (recvCell c k.val))

/-- What a device carries through the host part: the records, its share of the protocol and its credits. -/
def Tk (c : Dev nD) : sProp 𝕄 := iprop(∃ K, records (args m) K ∗ dealt c ∗ credits c)
/-- What a device has of the protocol inside the region, with its local semaphores. -/
def Xk (c : Dev nD) : sProp 𝕄 := iprop((∃ K, records (args m) K ∗ linear c ∗ credits c ∗ levAts L lv) ∗ localSems c)
/-- What remains of the protocol after the region: the barrier at rest. -/
def Yk (c : Dev nD) : sProp 𝕄 := semVal (barCell c) 0

/-- A family of unopened cells, their semaphores at rest, opened. -/
theorem open_nine (K) (c : Dev nD) (cell : ℕ → GSem nD τ sig) (nm : ℕ → ℕ)
    (hi : ∀ k, k < 9 → records (args m) K ⊢ cellInv ER (moeRd (args m)) (nm k) (cell k)) :
    iprop(records (args m) K ∗ bigSep Finset.univ fun k : Fin 9 => iprop(openTok ER (cell k.val) ∗ semVal (cell k.val) 0))
      ⊢ (|={Set.univ}=> ((bigSep Finset.univ fun k : Fin 9 => atPos ER (cell k.val) 0 ∅ 0) ∗ bigSep Finset.univ fun k : Fin 9 => reached ER (cell k.val) 0) : sProp 𝕄) := by
  have h1 (k : Fin 9) (_ : k ∈ Finset.univ) : iprop(records (args m) K ∗ (openTok ER (cell k.val) ∗ semVal (cell k.val) 0))
      ⊢ (|={Set.univ}=> (atPos ER (cell k.val) 0 ∅ 0 ∗ reached ER (cell k.val) 0) : sProp 𝕄) := by
    iintro ⟨HR, Ho, Hv⟩
    iapply (Rounds.cell_open ER (moeRd (args m)) (g := cell k.val) (Set.mem_univ (nm k.val)))
    isplitl [HR]; · iapply (hi k.val k.isLt) $$ HR
    isplitl [Ho] <;> iassumption
  refine (bigSep_with_persistent (R := records (args m) K) h1).trans ((bigSep_fupd _ _).trans ?_)
  rw [bigSep_sep']

/-- Entering the region: the cells of copies are opened. -/
theorem hopen (c : Dev nD) : iprop(Tk m c ∗ Pipeline.ownSems0 osem c ∗ levAts L lv) ⊢ (|={Set.univ}=> Xk m c : sProp 𝕄) := by
  rw [ownSems_eq]
  unfold Tk Xk dealt
  iintro ⟨⟨%K, #HR, ⟨HB, HpB, HD, HoS, HoR⟩, HC⟩, ⟨HvS, HvR, HL⟩, #Hlev⟩
  imod (open_nine m K c (sendCell c) (fun k => K (c, iS k)) fun k hk => inv_send (args m) K c hk) $$ [HoS HvS] with ⟨HaS, HrS⟩
  · isplitr; · iexact HR
    iapply (Entails.of_eq (bigSep_sep' _ (fun k : Fin 9 => openTok ER (sendCell c k.val)) (fun k : Fin 9 => semVal (sendCell c k.val) 0)).symm)
    isplitl [HoS] <;> iassumption
  imod (open_nine m K c (recvCell c) (fun k => K (c, iR k)) fun k hk => inv_recv (args m) K c hk) $$ [HoR HvR] with ⟨HaR, HrR⟩
  · isplitr; · iexact HR
    iapply (Entails.of_eq (bigSep_sep' _ (fun k : Fin 9 => openTok ER (recvCell c k.val)) (fun k : Fin 9 => semVal (recvCell c k.val) 0)).symm)
    isplitl [HoR] <;> iassumption
  imodintro
  isplitr [HL]
  rotate_left
  · iexact HL
  iexists K
  isplitr; · iexact HR
  isplitr [HC]
  rotate_left
  · isplitl [HC]; · iexact HC
    iexact Hlev
  ihave HD := (Entails.of_eq (nine (F := F) (duty c))) $$ HD
  ihave HaS := (Entails.of_eq (nine (F := F) fun k => atPos ER (sendCell c k) 0 ∅ 0)) $$ HaS
  ihave HaR := (Entails.of_eq (nine (F := F) fun k => atPos ER (recvCell c k) 0 ∅ 0)) $$ HaR
  unfold linear sendable ready
  icases HD with ⟨D0, D1, D2, D3, D4, D5, D6, D7, D8⟩
  icases HaS with ⟨S0, S1, S2, S3, S4, S5, S6, S7, S8⟩
  icases HaR with ⟨R0, R1, R2, R3, R4, R5, R6, R7, R8⟩
  iclose

/-! ## The region's data -/

/-- The arrays the kernel copies from and to by itself. -/
def hbms (c : Dev nD) (g : FVec F S1024x1024 .f32) : sProp 𝕄 :=
  iprop(pt c main_arg2 Finset.univ ((args m).w1 c) ∗ pt c main_arg3 Finset.univ ((args m).w2 c) ∗ pt c main_v2 Finset.univ g)

/-- What the body starts from. -/
def Φi (c : Dev nD) : sProp 𝕄 := iprop(Xk m c ∗ (∃ g, hbms m c g) ∗ scratch c ∗ ∃ r, prngReg c r)
/-- What the body ends with. -/
def Φo (c : Dev nD) : sProp 𝕄 := iprop(restSems c ∗ hbms m c (outOf (args m) c) ∗ scratch c ∗ ∃ r, prngReg c r)

/-- The region's proof data. -/
def dat0 (c : Dev nD) : Pipeline.Dat τ (Elt F) Unit ℕ UU ℕ cfg0 c where
  A w := V m c (Pipeline.arrRef spec0 w)
  after w _ := match w with
    | ⟨0, _⟩ => (args m).x c
    | ⟨1, _⟩ => (args m).a c
  Φ t := if t.val = 0 then Φi m c else Φo m c
  q _ := fullShare
  owed t := if t.val = 0 then O₀ c else 0

/-- The region's configuration is admissible. -/
abbrev adm : (p : Fin 1) → (pcfgs (F := F) p).Adm := fun p => (cfgs p).toPCfg_adm
/-- The proof data of the program's one region. -/
def pdats : (p : Fin 1) → (c : Dev nD) → Pipeline.Dat τ (Elt F) Unit ℕ UU ℕ (Pipeline.pin (pcfgs (F := F)) adm p) c
  | 0 => dat0 m

/-- The staged block of the tokens is their whole array. -/
theorem iblk_x (c : Dev nD) : iblk m c 0 t0_0 = (args m).x c :=
  (Memref.read_access_unit_zero (Elt F) main_arg0 (off := fun a => win0_0.index t0_0 a * (spec0 0).block.size a) (funext (by decide)) _ _).trans (V_main_arg0 m c)
/-- So is that of the ids. -/
theorem iblk_a (c : Dev nD) : iblk m c 1 t0_0 = (args m).a c :=
  Memref.read_access_unit_zero (Elt F) main_v1 (off := fun a => win0_1.index t0_0 a * (spec0 1).block.size a) (funext (by decide)) _ _

/-- The body finds the tokens in the first staged buffer. -/
theorem before_x (c : Dev nD) (d) : (dat0 m c).before (0 : Fin 2) t0_0 d = (args m).x c := by
  rw [← iblk_x]; unfold Pipeline.Dat.before; rw [if_pos (fetch0_0 t0_0)]; rfl
/-- The body finds the entries of `assign`, as a column, in the second. -/
theorem before_a (c : Dev nD) (d) : (dat0 m c).before (1 : Fin 2) t0_0 d = (args m).a c := by
  rw [← iblk_a]; unfold Pipeline.Dat.before; rw [if_pos (fetch0_1 t0_0)]; rfl

/-! ## The body's obligation -/

/-- Owning a staged buffer with its contents. -/
abbrev staged (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

/-- It is owning the buffer. -/
theorem staged_eq (c : Dev nD) (b : Ref sig .tc) (X : b.ty.Contents (Elt F)) : staged c b X = (pt c b Finset.univ X : sProp 𝕄) := by
  refine BI.equiv_iff.mp ⟨?_, ?_⟩
  · show staged c b X ⊢ (pt c b Finset.univ X : sProp 𝕄)
    iintro ⟨%f, %hf, H⟩; subst hf; iexact H
  · show (pt c b Finset.univ X : sProp 𝕄) ⊢ staged c b X
    iintro H; iexists X; isplitr; · ipureintro; rfl
    iexact H

/-- What is owed at the body's start. -/
theorem owed_at (c : Dev nD) : (dat0 m c).owesAt () t0_0.castSucc ⊢ (iprop(∃ W, owes (c : Thread nD τ) (O₀ c) W) : sProp 𝕄) := by
  unfold Pipeline.Dat.owesAt Pipeline.owesWithin
  iintro ⟨%W, -, H⟩; iexists W; iexact H
/-- Nothing is owed at its end. -/
theorem owed_end (c : Dev nD) : owe c 0 ⊢ ((dat0 m c).owesAt () t0_0.succ : sProp 𝕄) := by
  unfold Pipeline.Dat.owesAt Pipeline.owesWithin owe
  iintro ⟨%W, H⟩; iexists W
  isplitr; · ipureintro; exact fun _ _ => Or.inl trivial
  iexact H

/-- The kernel's body takes what the region's entry gives to what its exit gives. -/
theorem sound (c : Dev nD) (d0 d1) :
    iprop(Φi m c ∗ (dat0 m c).owesAt () t0_0.castSucc ∗ staged c cc0_stg0_0 ((dat0 m c).before (0 : Fin 2) t0_0 d0)
        ∗ staged c cc0_stg1_0 ((dat0 m c).before (1 : Fin 2) t0_0 d1))
      ⊢ wpc c (atBufs (cc0_body (F := F))) fun _ => iprop(Φo m c ∗ (dat0 m c).owesAt () t0_0.succ ∗ staged c cc0_stg0_0 ((args m).x c) ∗ staged c cc0_stg1_0 ((args m).a c)) := by
  rw [before_x, before_a, staged_eq, staged_eq]
  unfold Φi Xk Φo
  iintro ⟨⟨⟨⟨%K, #HR, Hl, Hc, #HL⟩, Hls⟩, ⟨%g, Hh⟩, Hs, Hp⟩, Ho, Hx, Ha⟩
  ihave Ho := (owed_at m c) $$ Ho
  icases Ho with ⟨%W, Ho⟩
  unfold hbms
  icases Hh with ⟨H1, H2, H3⟩
  iapply (body (args m) K c (W := W) (g0 := g)) $$ [Ho Hl Hc Hx Ha H1 H2 H3 Hs Hls]
  · unfold operands
    iclose
  unfold operands
  iintro ⟨Ho, ⟨Hx, Ha, H1, H2, H3⟩, Hs, Hr⟩
  ihave Ho := (owed_end m c) $$ Ho
  iclose

/-- The body does what the region's proof data say. -/
theorem body_obligation (c : Dev nD) : Pipeline.BodyObligation (dat0 (F := F) m c) (defs₀ (F := F)) 𝒱₀ () Set.univ := fun t => by
  rw [fin_N0 t, bigSep_W0, bigSep_W0]
  simp only [owns_whole_eq]
  show iprop(Φi m c ∗ (dat0 m c).owesAt () t0_0.castSucc
      ∗ (∃ d, staged c cc0_stg0_0 ((dat0 m c).before (0 : Fin 2) t0_0 d)) ∗ (∃ d, staged c cc0_stg1_0 ((dat0 m c).before (1 : Fin 2) t0_0 d)))
    ⊢ wpc c (atBufs (cc0_body (F := F))) fun _ => iprop(Φo m c ∗ (dat0 m c).owesAt () t0_0.succ ∗ staged c cc0_stg0_0 ((args m).x c) ∗ staged c cc0_stg1_0 ((args m).a c))
  iintro ⟨HΦ, Ho, ⟨%d0, Hx⟩, ⟨%d1, Ha⟩⟩
  iapply (sound m c d0 d1)
  iclose

/-! ## The region -/

/-- The buffers beside the staged arrays. -/
def Sr : Finset (DevRef τ sig) :=
  {Proc.devRef .tc main_arg1, Proc.devRef .tc main_arg2, Proc.devRef .tc main_arg3, Proc.devRef .tc main_v2}

/-- The arrays outside the kernel's staging, one by one. -/
theorem held_Sr (c : Dev nD) (W : Valuation τ sig (Elt F)) : (StableHlo.held (c : Thread nD τ) Sr W : sProp 𝕄)
    = iprop(pt c main_arg1 Finset.univ (W (Proc.devRef .tc main_arg1)) ∗ pt c main_arg2 Finset.univ (W (Proc.devRef .tc main_arg2))
        ∗ pt c main_arg3 Finset.univ (W (Proc.devRef .tc main_arg3)) ∗ pt c main_v2 Finset.univ (W (Proc.devRef .tc main_v2))) := by
  unfold StableHlo.held Sr
  rw [bigSep_eq_bigSepL_of_eq [Proc.devRef .tc main_arg1, Proc.devRef .tc main_arg2, Proc.devRef .tc main_arg3, Proc.devRef .tc main_v2] (by decide) (by decide)]
  rfl

/-- The arrays that the kernel stages, one by one. -/
theorem held_arrs (c : Dev nD) (W : Valuation τ sig (Elt F)) :
    (StableHlo.held (c : Thread nD τ) (Pipeline.arrRefs (τ := τ) (pcfgs (F := F) 0).spec) W : sProp 𝕄)
      = iprop(pt c main_arg0 Finset.univ (W (Proc.devRef .tc main_arg0)) ∗ pt c main_v1 Finset.univ (W (Proc.devRef .tc main_v1))) := by
  unfold StableHlo.held
  rw [bigSep_eq_bigSepL_of_eq [Proc.devRef .tc main_arg0, Proc.devRef .tc main_v1]
    (show Pipeline.arrRefs (τ := τ) spec0 = _ by decide) (by decide)]
  rfl

/-- The host's three arrays that the region shares with the kernel's staging. -/
def Sh : Finset (DevRef τ sig) := {Proc.devRef .tc main_arg2, Proc.devRef .tc main_arg3, Proc.devRef .tc main_v2}

/-- These three, one by one. -/
theorem held_Sh (c : Dev nD) (W : Valuation τ sig (Elt F)) : (StableHlo.held (c : Thread nD τ) Sh W : sProp 𝕄)
    = iprop(pt c main_arg2 Finset.univ (W (Proc.devRef .tc main_arg2))
        ∗ pt c main_arg3 Finset.univ (W (Proc.devRef .tc main_arg3)) ∗ pt c main_v2 Finset.univ (W (Proc.devRef .tc main_v2))) := by
  unfold StableHlo.held Sh
  rw [bigSep_eq_bigSepL_of_eq [Proc.devRef .tc main_arg2, Proc.devRef .tc main_arg3, Proc.devRef .tc main_v2] (by decide) (by decide)]
  rfl

/-- Entering the region gives what the body starts from. -/
theorem hin (c : Dev nD) : iprop(Pipeline.scopedRest (Pipeline.pin (pcfgs (F := F)) adm 0).spec c ∗ (∃ r, prngReg c r)
      ∗ StableHlo.held (c.tc : Thread nD τ) Sh (Wi m c) ∗ Xk m c) ⊢ (pdats m 0 c).Φ 0 := by
  rw [show (pdats m 0 c).Φ 0 = Φi m c from rfl,
    show (Pipeline.scopedRest (Pipeline.pin (pcfgs (F := F)) adm 0).spec c : sProp 𝕄) = scratch c from scopedRest0_eq c, held_Sh, Wi_arg2, Wi_arg3]
  unfold Φi
  iintro ⟨Hs, Hp, Hh, HX⟩
  isplitl [HX]; · iexact HX
  isplitl [Hh]; · iexists _; unfold hbms; iexact Hh
  isplitl [Hs] <;> iassumption

/-- What the body ends with is what leaving the region asks for. -/
theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) Sh (Wo m c) ∗ Pipeline.ownSems0 osem c ∗ Yk c) := by
  rw [show (pdats m 0 c).Φ (Fin.last _) = Φo m c from rfl,
    show (Pipeline.scopedRest (Pipeline.pin (pcfgs (F := F)) adm 0).spec c : sProp 𝕄) = scratch c from scopedRest0_eq c, held_Sh, Wo_v2,
    Wo_ne m c main_arg2 (by decide), Wo_ne m c main_arg3 (by decide), Wi_arg2, Wi_arg3, ownSems_eq,
    nine fun k => semVal (sendCell c k) 0, nine fun k => semVal (recvCell c k) 0]
  unfold Φo restSems Yk
  iintro ⟨⟨Hb, S0, S1, S2, S3, S4, S5, S6, S7, S8, R0, R1, R2, R3, R4, R5, R6, R7, R8, HL⟩, Hh, Hs, Hp⟩
  isplitl [Hs]; · iexact Hs
  isplitl [Hp]; · iexact Hp
  isplitl [Hh]; · unfold hbms; iexact Hh
  iclose

/-- What is owed anywhere in the region is above the staged copies. -/
theorem cut (c : Dev nD) (t : Fin ((Pipeline.pin (pcfgs (F := F)) adm 0).N + 1)) (g : GSem nD τ sig) (i : Unit) (h : 0 < (pdats (F := F) m 0 c).owed t g i) :
    i ∈ L g ∧ (0 : ℕ) < lv g i := by
  have e : (pdats (F := F) m 0 c).owed t = if t.val = 0 then O₀ c else 0 := rfl
  rw [e] at h
  split at h
  · rcases O₀_pos h with rfl | ⟨k, hk, rfl⟩
    · exact ⟨by rw [L_tc]; exact Finset.mem_singleton_self _, Nat.one_pos⟩
    · exact ⟨by rw [L_tc]; exact Finset.mem_singleton_self _, by rw [lv_recv _ k hk]; omega⟩
  · exact absurd h (Nat.lt_irrefl 0)

/-- The staged copies' semaphores are among the lowest. -/
theorem stage_low : ∀ (w : Fin 2) (s : Fin (spec0 w).nbuf), ((spec0 w).sem s).val < 11 := by decide

/-- The region's side conditions at launch. -/
theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- The staged arrays, on entering. -/
theorem arrs_in (c : Dev nD) (w) : (pdats m 0 c).arrAt w 0 = Wi m c (Proc.devRef .tc (Pipeline.arrRef (Pipeline.pin (pcfgs (F := F)) adm 0).spec w)) := by
  obtain ⟨w, hw⟩ := w
  obtain rfl | rfl : w = 0 ∨ w = 1 := by have : w < 2 := hw; omega
  · exact (dat0 m c).arrAt_in 0 rfl _
  · exact (dat0 m c).arrAt_in 1 rfl _
/-- The staged arrays, on leaving: they have not changed. -/
theorem arrs_out (c : Dev nD) (w) : (pdats m 0 c).arrAt w (Pipeline.pin (pcfgs (F := F)) adm 0).N
    = Wo m c (Proc.devRef .tc (Pipeline.arrRef (Pipeline.pin (pcfgs (F := F)) adm 0).spec w)) := by
  obtain ⟨w, hw⟩ := w
  obtain rfl | rfl : w = 0 ∨ w = 1 := by have : w < 2 := hw; omega
  · exact ((dat0 m c).arrAt_in 0 rfl _).trans (Wo_ne m c main_arg0 (by decide)).symm
  · exact ((dat0 m c).arrAt_in 1 rfl _).trans (Wo_ne m c main_v1 (by decide)).symm

set_option backward.isDefEq.respectTransparency.types false in
/-- The region. -/
def reg0 : Pipeline.RegionSeg (pcfgs (F := F)) adm (pdats m) () defs₀ 𝒱₀ L lv 0 :=
  Pipeline.RegionSeg.ofTalk (pcfgs (F := F)) adm (pdats m) () defs₀ 𝒱₀ L lv 0 osem ownSemFacts
    Sh Sr (by decide) kit rfl (fun c => (body_obligation m c).loose)
    (fun _ => 0) O₀ (fun c => (zero_add _).symm) (fun _ => rfl) (fun _ => rfl)
    (fun c w => by unfold Pipeline.Dat.share; split <;> rfl)
    (Wi m) (Wo m) (fun c b hb => Function.update_of_ne (fun e => by subst e; exact absurd hb (by decide)) ..)
    (Tk m) Yk (Xk m) Yk (hopen m) (hin m) (hout m)
    (fun c => by iintro H; imodintro; iexact H)
    (fun _ => 0)
    ⟨fun c w s => by rw [L_tc]; exact Finset.mem_singleton_self _,
      fun c w s => by fin_cases w <;> fin_cases s <;> exact le_of_eq (lv_dsem c _ (.inl (by first | exact stage_low 0 ⟨0, by decide⟩ | exact stage_low 1 ⟨0, by decide⟩))), fun c t g i h => cut m c t g i h⟩
    (fun _ => iprop(emp)) (arrs_in m) (arrs_out m)

end Cert.MoeProof

end
-- ==== Proof.Launch.lean ====
/-
  The launch: the cells' invariants allocated, the tokens, credits and positions dealt to the devices, and the run of the
  whole program from any memory.
-/
module

public import proofs.«01_k».proof.Proof.Region

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The program as its segments -/

/-- The buffers at launch. -/
def V₀ (c : Dev nD) : Valuation τ sig (Elt F) := fun b => m (c, b)

/-- What rides beside the buffers to the kernel. -/
def riding (c : Dev nD) : sProp 𝕄 := iprop(Tk m c ∗ (∃ r, prngReg c r) ∗ ∃ W, owes (c : Thread nD τ) (O₀ c) W)

/-- The host's reshape of the ids. -/
def seg0 : Pipeline.HostSeg (Name := ℕ) (U := UU) (pcfgs (F := F)) defs₀ 𝒱₀ L lv :=
  Pipeline.HostSeg.ofOps _ _ _ _ _ (Pipeline.ucRefs τ sig) (hostOps0 (F := F))
    (fun op h => Pipeline.sub_ucRefs op (List.forall_iff_forall_mem.mp hostOps0_sub op h))
    (fun op h => List.forall_iff_forall_mem.mp hostOps0_fresh op h) (V₀ m) (riding m)

/-- The program: the host's reshape, then the kernel's region. -/
def segs : List (Pipeline.Seg (pcfgs (F := F)) adm (pdats m) () defs₀ 𝒱₀ L lv) := [.host (seg0 m), .region (reg0 m)]

/-- Every device runs these two. -/
theorem main_eq (c : Dev nD) : main (F := F) c = Pipeline.Seg.run (segs m) := main_segs adm (pdats m) () 𝒱₀ L lv (seg0 m) (reg0 m) rfl c

/-- All the arrays of a device: those staged, and the rest. -/
theorem held_all (c : Dev nD) (W : Valuation τ sig (Elt F)) : (StableHlo.held (c : Thread nD τ) (Pipeline.ucRefs τ sig) W : sProp 𝕄)
    = iprop(StableHlo.held (c : Thread nD τ) (Pipeline.arrRefs (τ := τ) (pcfgs (F := F) 0).spec) W ∗ StableHlo.held (c : Thread nD τ) Sr W) := by
  have h : Pipeline.arrRefs (τ := τ) (pcfgs (F := F) 0).spec ⊆ Pipeline.ucRefs τ sig :=
    show Pipeline.arrRefs (τ := τ) spec0 ⊆ Pipeline.ucRefs τ sig by decide
  have e : Pipeline.ucRefs τ sig \ Pipeline.arrRefs (τ := τ) (pcfgs (F := F) 0).spec = Sr :=
    show Pipeline.ucRefs τ sig \ Pipeline.arrRefs (τ := τ) spec0 = Sr by decide
  rw [StableHlo.held_sub_split _ h, e]

/-- What the host part leaves is what the region asks for. -/
theorem reg_pre (c : Dev nD) : (seg0 m).post c ⊢ (reg0 m).pre c := by
  show iprop(StableHlo.held (c : Thread nD τ) (Pipeline.ucRefs τ sig) (Wi m c) ∗ riding m c)
    ⊢ iprop(StableHlo.held (c : Thread nD τ) (Pipeline.arrRefs (τ := τ) (pcfgs (F := F) 0).spec) (Wi m c) ∗ (∃ r, prngReg c r)
      ∗ (StableHlo.held (c : Thread nD τ) Sr (Wi m c) ∗ emp) ∗ Tk m c ∗ ∃ Wd, owes (c : Thread nD τ) (0 + O₀ c) Wd)
  rw [held_all, zero_add]
  unfold riding
  iintro ⟨⟨Ha, Hr⟩, Ht, Hp, Ho⟩
  isplitl [Ha]; · iexact Ha
  isplitl [Hp]; · iexact Hp
  isplitl [Hr]
  · isplitl [Hr]; · iexact Hr
    iempintro
  isplitl [Ht] <;> iassumption

/-- The last state of a device. -/
def final (c : Dev nD) : sProp 𝕄 := iprop((pt c main_arg0 Finset.univ (m ((c : Thread nD τ).loc main_arg0)) ∗ pt c main_arg1 Finset.univ (m ((c : Thread nD τ).loc main_arg1))
  ∗ pt c main_arg2 Finset.univ (m ((c : Thread nD τ).loc main_arg2)) ∗ pt c main_arg3 Finset.univ (m ((c : Thread nD τ).loc main_arg3))
  ∗ pt c main_v2 Finset.univ (outOf (args m) c)) ∗ semVal (barCell c) 0)

/-- What the region leaves is the final state of the device, with nothing owed. -/
theorem reg_post (c : Dev nD) : (reg0 m).post c ⊢ iprop(final m c ∗ ∃ W, owes (c : Thread nD τ) (0 : CellTallies nD τ sig Unit) W) := by
  show iprop(StableHlo.held (c : Thread nD τ) (Pipeline.arrRefs (τ := τ) (pcfgs (F := F) 0).spec) (Wo m c) ∗ (∃ r, prngReg c r)
      ∗ (StableHlo.held (c : Thread nD τ) Sr (Wo m c) ∗ emp) ∗ Yk c ∗ ∃ Wd, owes (c : Thread nD τ) (0 : CellTallies nD τ sig Unit) Wd) ⊢ _
  rw [held_arrs, held_Sr, Wo_v2, Wo_ne m c main_arg0 (by decide), Wo_ne m c main_arg1 (by decide), Wo_ne m c main_arg2 (by decide), Wo_ne m c main_arg3 (by decide),
    Wi_arg0, Wi_arg1, Wi_arg2, Wi_arg3]
  unfold final Yk
  iintro ⟨⟨H0, -⟩, -, ⟨⟨H1, H2, H3, H4⟩, -⟩, Hb, Ho⟩
  iclose

/-! ## The cells and their tokens -/

/-- The nineteen semaphores of the protocol are different. -/
theorem csem_inj : Function.Injective csem := by decide
/-- So are the cells of all devices. -/
theorem kcell_inj : Function.Injective (kcell : Dev nD × Fin 19 → GSem nD τ sig) := fun a b h =>
  Prod.ext (congrArg (fun g : GSem nD τ sig => g.1.1) h) (csem_inj (congrArg Prod.snd h))

/-- The barriers' cells, one for each device. -/
def barEmb : Dev nD ↪ GSem nD τ sig := ⟨fun c => kcell (c, 0), fun _ _ h => congrArg Prod.fst (kcell_inj h)⟩
/-- The copies' cells, eighteen for each device. -/
def cpyEmb : Dev nD × Fin 18 ↪ GSem nD τ sig := ⟨fun ck => kcell (ck.1, ck.2.succ), fun a b h =>
  by
  have h' := kcell_inj h
  obtain ⟨h1, h2⟩ := Prod.mk.inj h'
  exact Prod.ext h1 (Fin.succ_injective _ h2)⟩
/-- The duties, one for each cell. -/
def tokEmb : Dev nD × Fin 19 ↪ GSem nD τ sig × ℕ × Unit := ⟨fun ck => (kcell ck, 0, ()), fun _ _ h => kcell_inj (congrArg Prod.fst h)⟩

/-- The barrier cells, open from the start, -/
abbrev barCells : Finset (GSem nD τ sig) := Finset.univ.map barEmb
/-- the cells of copies, opened on entering the kernel, -/
abbrev cpyCells : Finset (GSem nD τ sig) := Finset.univ.map cpyEmb
/-- and one token for each. -/
abbrev toks : Finset (GSem nD τ sig × ℕ × Unit) := Finset.univ.map tokEmb

/-- No barrier's cell is a copy's. -/
theorem cells_disjoint : Disjoint (barCells : Finset (GSem nD τ sig)) cpyCells := by
  rw [Finset.disjoint_left]
  rintro g h₁ h₂
  obtain ⟨c, -, rfl⟩ := Finset.mem_map.mp h₁
  obtain ⟨ck, -, h⟩ := Finset.mem_map.mp h₂
  exact absurd (congrArg Prod.snd (kcell_inj h)) (Fin.succ_ne_zero _)

/-- Every cell of the protocol is among them. -/
theorem cell_mem (ck : Dev nD × Fin 19) : kcell ck ∈ (barCells ∪ cpyCells : Finset (GSem nD τ sig)) := by
  obtain ⟨c, k⟩ := ck
  obtain rfl | ⟨j, rfl⟩ := Fin.eq_zero_or_eq_succ k
  · exact Finset.mem_union_left _ (Finset.mem_map_of_mem barEmb (Finset.mem_univ c))
  · exact Finset.mem_union_right _ (Finset.mem_map_of_mem cpyEmb (Finset.mem_univ (c, j)))

/-! ## Families over the cells, by kind -/

omit [FloatOps F] in
/-- The copies' cells of a device are nine for departures and nine for landings. -/
theorem eighteen (c : Dev nD) (Φ : GSem nD τ sig → sProp 𝕄) : bigSep Finset.univ (fun k : Fin 18 => Φ (kcell (c, k.succ)))
    = iprop((bigSep Finset.univ fun k : Fin 9 => Φ (sendCell c k.val)) ∗ bigSep Finset.univ fun k : Fin 9 => Φ (recvCell c k.val)) := by
  rw [bigSep_univ_equiv (finSumFinEquiv (m := 9) (n := 9)) fun k : Fin 18 => Φ (kcell (c, k.succ)), bigSep_univ_sum]
  refine congrArg₂ (fun A B : sProp 𝕄 => iprop(A ∗ B)) (bigSep_congr fun k _ => ?_) (bigSep_congr fun k _ => ?_)
  · rw [← kcell_send c k.isLt]
    congr 3
    refine Fin.ext ?_
    show k.val + 1 = (1 + k.val) % 19
    have := k.isLt; omega
  · rw [← kcell_recv c k.isLt]
    congr 3
    refine Fin.ext ?_
    show 9 + k.val + 1 = (10 + k.val) % 19
    have := k.isLt; omega

omit [FloatOps F] in
/-- The cells of a device are its barrier's and the eighteen of its copies. -/
theorem nineteen (c : Dev nD) (Φ : GSem nD τ sig → sProp 𝕄) : bigSep Finset.univ (fun k : Fin 19 => Φ (kcell (c, k)))
    = iprop(Φ (barCell c) ∗ (bigSep Finset.univ fun k : Fin 9 => Φ (sendCell c k.val)) ∗ bigSep Finset.univ fun k : Fin 9 => Φ (recvCell c k.val)) := by
  rw [← eighteen, Fin.univ_succ, Finset.cons_eq_insert, BI.bigSep_insert (by simp [Fin.succ_ne_zero]), BI.bigSep_map]
  rfl

/-! ## The deal -/

/-- Partners exchanged. -/
def partners : Dev nD ≃ Dev nD := ⟨pe, pe, pe_pe, pe_pe⟩

/-- The tokens of a device's own cells. -/
def own (c : Dev nD) : sProp 𝕄 := iprop(dutyTok ER (barCell c) 0 () ∗ (bigSep Finset.univ fun k : Fin 9 => dutyTok ER (sendCell c k.val) 0 ())
  ∗ bigSep Finset.univ fun k : Fin 9 => dutyTok ER (recvCell c k.val) 0 ())

/-- The tokens of all duties are the devices' own. -/
theorem toks_own : bigSep toks (fun x => (dutyTok ER x.1 x.2.1 x.2.2 : sProp 𝕄)) = bigSep Finset.univ fun c : Dev nD => own c := by
  rw [BI.bigSep_map, bigSep_univ_prod]
  exact bigSep_congr fun c _ => nineteen c fun g => dutyTok ER g 0 ()

/-- The tokens of the barrier and of landed copies go to the partner, who pays those duties. -/
theorem toks_deal : (bigSep Finset.univ fun c : Dev nD => (own c : sProp 𝕄))
    ⊢ iprop((bigSep Finset.univ fun c : Dev nD => dutyTok ER (barCell (pe c)) 0 ()) ∗ bigSep Finset.univ fun c : Dev nD => bigSep Finset.univ fun k : Fin 9 => duty c k.val) := by
  have h (c : Dev nD) : (bigSep Finset.univ fun k : Fin 9 => (duty c k.val : sProp 𝕄))
      = iprop((bigSep Finset.univ fun k : Fin 9 => dutyTok ER (sendCell c k.val) 0 ()) ∗ bigSep Finset.univ fun k : Fin 9 => dutyTok ER (recvCell (pe c) k.val) 0 ()) := by
    unfold duty; rw [bigSep_sep']
  unfold own
  simp only [h]
  rw [bigSep_sep', bigSep_sep', bigSep_sep', bigSep_univ_equiv partners (fun c : Dev nD => (dutyTok ER (barCell c) 0 () : sProp 𝕄)),
    bigSep_univ_equiv partners (fun c : Dev nD => (bigSep Finset.univ fun k : Fin 9 => dutyTok ER (recvCell c k.val) 0 () : sProp 𝕄))]
  exact BI.Entails.refl _

/-- The rights to open the cells of copies, by device. -/
theorem open_deal : bigSep cpyCells (fun g => (openTok ER g : sProp 𝕄)) = bigSep Finset.univ fun c : Dev nD =>
    iprop((bigSep Finset.univ fun k : Fin 9 => openTok ER (sendCell c k.val)) ∗ bigSep Finset.univ fun k : Fin 9 => openTok ER (recvCell c k.val)) := by
  rw [BI.bigSep_map, bigSep_univ_prod]
  exact bigSep_congr fun c _ => eighteen c fun g => openTok ER g

/-- A statement of every barrier's cell is one of every device. -/
theorem bars_deal (Φ : GSem nD τ sig → sProp 𝕄) : bigSep barCells Φ = bigSep Finset.univ fun c : Dev nD => Φ (barCell c) := BI.bigSep_map barEmb

/-! ## The credits -/

/-- Of what a device owes with `n` copies to go, the landing `k` on its partner is still owed if it is among them. -/
theorem owedR_recv (d c : Dev nD) (k : ℕ) (hk : k < 9) : ∀ n ≤ 9, owedR d n (recvCell c k) () = if d = pe c ∧ 9 ≤ n + k then amt k else 0
  | 0, _ => by rw [if_neg (by omega)]; rfl
  | n + 1, hn => by
    unfold owedR
    rw [Pi.add_apply, Finsupp.add_apply, owedR_recv d c k hk n (by omega), tallyAt_apply]
    have hc : recvCell c k = recvCell (pe d) (8 - n) ↔ d = pe c ∧ k = 8 - n := by
      constructor
      · intro h
        rw [← kcell_recv c hk, ← kcell_recv (pe d) (show 8 - n < 9 by omega)] at h
        have h' := kcell_inj h
        have h1 : c = pe d := congrArg Prod.fst h'
        have h2 : (10 + k) % 19 = (10 + (8 - n)) % 19 := congrArg (fun x : Dev nD × Fin 19 => x.2.val) h'
        exact ⟨by rw [h1, pe_pe], by omega⟩
      · rintro ⟨rfl, rfl⟩; rw [pe_pe]
    have e : (recvCell c k = recvCell (pe d) (8 - n) ∧ () = ()) ↔ (d = pe c ∧ k = 8 - n) := ⟨fun h => hc.mp h.1, fun h => ⟨hc.mpr h, rfl⟩⟩
    rw [if_congr e rfl rfl]
    by_cases h1 : d = pe c
    · simp only [h1, true_and]
      by_cases h2 : k = 8 - n
      · rw [if_neg (by omega), if_pos h2, if_pos (by omega), Nat.zero_add, h2]
      · rw [if_neg h2, Nat.add_zero]
        exact if_congr (by omega) rfl rfl
    · simp only [h1, false_and, if_false]

/-- The copies owe nothing to a barrier. -/
theorem owedR_bar (d c : Dev nD) : ∀ n ≤ 9, owedR d n (barCell c) () = 0 := fun n hn => by
  by_contra h
  obtain ⟨k, hk, -, e⟩ := owedR_pos hn (Nat.pos_of_ne_zero h)
  exact absurd (congrArg Prod.snd e) (by intro e; cases e)

/-- At the start a barrier is owed one signal, by the partner. -/
theorem O₀_bar (d c : Dev nD) : O₀ d (barCell c) () = if d = pe c then 1 else 0 := by
  unfold O₀
  rw [Pi.add_apply, Finsupp.add_apply, owedR_bar d c 9 (le_refl 9), tallyAt_apply, Nat.zero_add]
  by_cases h : d = pe c
  · subst h; rw [pe_pe, if_pos ⟨rfl, rfl⟩, if_pos rfl]
  · rw [if_neg h, if_neg]
    rintro ⟨h1, -⟩
    have h2 : c = pe d := congrArg (fun g : GSem nD τ sig => g.1.1) h1
    exact h (by rw [h2, pe_pe])
/-- At the start a landing is owed its amount, by the partner. -/
theorem O₀_recv (d c : Dev nD) (k : ℕ) (hk : k < 9) : O₀ d (recvCell c k) () = if d = pe c then amt k else 0 := by
  unfold O₀
  have hn : ¬ (recvCell c k = barCell (pe d) ∧ () = ()) := fun h => by
    have := congrArg Prod.snd h.1; cases this
  rw [Pi.add_apply, Finsupp.add_apply, owedR_recv d c k hk 9 (le_refl 9), tallyAt_apply, if_neg hn, Nat.add_zero]
  refine if_congr ⟨fun h => h.1, fun h => ⟨h, by omega⟩⟩ rfl rfl

/-- A cell to which one device owes `n` has `n` units of credit at launch. -/
theorem launch_cell (c : Dev nD) (sm : SemLoc sig) (n : ℕ) (h : ∀ d, O₀ d ((c : Thread nD τ), sm) () = if d = pe c then n else 0) :
    tallyOn ((c : Thread nD τ), sm) (launchCredit (Pipeline.owing O₀) 0 ((c : Thread nD τ), sm))
      = (tallyAt ((c : Thread nD τ), sm) () n : CellTallies nD τ sig Unit) := by
  unfold tallyAt
  refine congrArg _ (Finsupp.ext fun u => ?_)
  cases u
  rw [Pipeline.launchCredit_owing, Finsupp.single_eq_same, Finset.sum_congr rfl fun d _ => h d, Finset.sum_ite_eq' Finset.univ (pe c) fun _ => n,
    if_pos (Finset.mem_univ _)]

/-- The launch's credits for a device are those that its waits spend. -/
theorem creds (c : Dev nD) : (Pipeline.launchCred O₀ c : sProp 𝕄) ⊢ credits c := by
  unfold Pipeline.launchCred
  have h9 : Function.Injective (fun k : Fin 9 => (SemLoc.dma (recvS k.val) : SemLoc sig)) := by decide
  have hsub : bigSep Finset.univ (fun sm : SemLoc sig => (cred (tallyOn ((c.tc : Thread nD τ), sm) (launchCredit (Pipeline.owing O₀) 0 ((c.tc : Thread nD τ), sm))) : sProp 𝕄))
      ⊢ bigSep (insert (SemLoc.reg barS) (Finset.univ.map ⟨_, h9⟩)) (fun sm : SemLoc sig => cred (tallyOn ((c.tc : Thread nD τ), sm) (launchCredit (Pipeline.owing O₀) 0 ((c.tc : Thread nD τ), sm)))) :=
    bigSep_subset (Finset.subset_univ _)
  refine hsub.trans ?_
  rw [BI.bigSep_insert (by simp), BI.bigSep_map]
  have hb := launch_cell c (.reg barS) 1 (O₀_bar · c)
  have hr (k : Fin 9) := launch_cell c (.dma (recvS k.val)) (amt k.val) (O₀_recv · c k.val k.isLt)
  rw [hb]
  have : (bigSep Finset.univ fun k : Fin 9 => (cred (tallyOn ((c.tc : Thread nD τ), SemLoc.dma (recvS k.val)) (launchCredit (Pipeline.owing O₀) 0 ((c.tc : Thread nD τ), SemLoc.dma (recvS k.val)))) : sProp 𝕄))
      = bigSep Finset.univ fun k : Fin 9 => cred (tallyAt (recvCell c k.val) () (amt k.val)) := bigSep_congr fun k _ => by rw [hr k]
  unfold credits
  refine sep_mono_right ((Entails.of_eq this).trans (Entails.of_eq (nine fun k => cred (tallyAt (recvCell c k) () (amt k)))))

/-! ## The launch's element, and the deal to the devices -/

/-- The element of the launch: that of the staging cells, and the protocol's. -/
def u₀ : UU :=
  (initOf (Pipeline.cells (Pipeline.pin (pcfgs (F := F)) adm) cellOf_inj) (Pipeline.launchToks (Pipeline.pin (pcfgs (F := F)) adm) cellOf_inj),
    (launchOf barCells cpyCells toks, 1))

/-- The protocol's part, kept by one device till the deal. -/
def stake (c : Dev nD) : sProp 𝕄 := if c = 0 then BI.own (ER (launchOf barCells cpyCells toks)) else iprop(emp)

/-- The devices' stakes are together the launch's resource. -/
theorem stakes : bigSep Finset.univ (stake (F := F)) = (BI.own (ER (launchOf barCells cpyCells toks)) : sProp 𝕄) := by
  rw [bigSep_univ_at _ (0 : Dev nD), bigSep_congr (s := Finset.univ.erase (0 : Dev nD)) (Ψ := fun _ => (BI.emp : sProp 𝕄))
      fun c hc => by unfold stake; rw [if_neg (Finset.ne_of_mem_erase hc)]; rfl, BI.bigSep_emp_const]
  unfold stake; rw [if_pos rfl]
  exact BI.equiv_iff.mp sep_emp

/-- The launch's resource, read in the protocol's part of the user's resources. -/
theorem stake_own : BI.own ((embR : Emb (UB × Counters) 𝕄) (launchOf barCells cpyCells toks, 1)) ⊢ (BI.own (ER (launchOf barCells cpyCells toks)) : sProp 𝕄) := by
  refine (own_pair_emb (embR : Emb (UB × Counters) 𝕄) _ _).trans ?_
  iintro ⟨H, -⟩
  iexact H

/-- The only semaphore outside the region is the barrier's. -/
theorem unscopedSems_eq (c : Dev nD) : (unscopedSems0 c : sProp 𝕄) = semVal (barCell c) 0 := by
  unfold unscopedSems0
  rw [bigSep_eq_bigSepL_of_eq [SemLoc.reg barS] (by decide) (by decide)]
  rfl

/-- What a device keeps of its launch holdings. -/
def kept (c : Dev nD) : sProp 𝕄 :=
  iprop(StableHlo.held (c : Thread nD τ) (Pipeline.ucRefs τ sig) (V₀ m c) ∗ credits c ∗ owes (c : Thread nD τ) (O₀ c) ∅ ∗ ∃ r, prngReg c r)

/-- What a device starts from. -/
abbrev first (c : Dev nD) : sProp 𝕄 := iprop(StableHlo.held (c : Thread nD τ) (Pipeline.ucRefs τ sig) (V₀ m c) ∗ riding m c)

/-- A device's start, put together from the records and its share. -/
theorem first_intro (K) (c : Dev nD) : iprop(records (args m) K ∗ (dealt c ∗ kept m c)) ⊢ first m c := by
  unfold kept first riding Tk
  iintro ⟨#HR, Hd, Hh, Hc, Ho, Hp⟩
  isplitl [Hh]; · iexact Hh
  isplitl [Hd Hc]
  · iexists K
    isplitr; · iexact HR
    isplitl [Hd] <;> iassumption
  isplitl [Hp]; · iexact Hp
  iexists ∅; iexact Ho

/-- The cells' invariants, by device and number. -/
theorem records_intro (κ : GSem nD τ sig → ℕ) :
    iprop((bigSep (barCells ∪ cpyCells) fun g => cellInv ER (moeRd (args m)) (κ g) g) ∗ bigSep barCells fun g => reached ER g 0)
      ⊢ (records (args m) (fun ck => κ (kcell ck)) : sProp 𝕄) := by
  unfold records
  rw [bars_deal]
  refine BI.sep_mono ?_ (BI.Entails.refl _)
  have h : (Finset.univ.map ⟨kcell, kcell_inj⟩ : Finset (GSem nD τ sig)) ⊆ barCells ∪ cpyCells := fun g hg => by
    obtain ⟨ck, -, rfl⟩ := Finset.mem_map.mp hg
    exact cell_mem ck
  exact (bigSep_subset h).trans (Entails.of_eq (BI.bigSep_map _))

/-- The tokens and rights, sorted by kind, make every device's deal. -/
theorem dealt_intro : iprop((bigSep Finset.univ fun c : Dev nD => dutyTok ER (barCell (pe c)) 0 ()) ∗ (bigSep Finset.univ fun c : Dev nD => atPos ER (barCell c) 0 ∅ 0)
      ∗ (bigSep Finset.univ fun c : Dev nD => bigSep Finset.univ fun k : Fin 9 => duty c k.val)
      ∗ (bigSep Finset.univ fun c : Dev nD => iprop((bigSep Finset.univ fun k : Fin 9 => openTok ER (sendCell c k.val)) ∗ bigSep Finset.univ fun k : Fin 9 => openTok ER (recvCell c k.val))))
    ⊢ (bigSep Finset.univ fun c : Dev nD => dealt c : sProp 𝕄) := by
  rw [← bigSep_sep', ← bigSep_sep', ← bigSep_sep']
  exact Entails.of_eq rfl

/-- From the launch's state every device reaches its start. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ stake c)) ∗ levAts L lv)
      ⊢ (|={Set.univ}=> bigSep Finset.univ (first m) : sProp 𝕄) := by
  have hcore (c : Dev nD) (_ : c ∈ Finset.univ) : iprop(unscopedBufs c (fun b => m ((c : Thread nD τ).loc b)) ∗ unscopedSems0 c
        ∗ owes (c : Thread nD τ) (O₀ c) ∅ ∗ Pipeline.launchCred O₀ c ∗ prngReg c (ρ c) ∗ stake c)
      ⊢ (iprop(kept m c ∗ (semVal (barCell c) 0 ∗ stake c)) : sProp 𝕄) := by
    rw [show unscopedBufs c (fun b => m ((c : Thread nD τ).loc b)) = StableHlo.held (c : Thread nD τ) (Pipeline.ucRefs τ sig) (V₀ m c) from Pipeline.unscopedBufs_held c (V₀ m c),
      unscopedSems_eq]
    unfold kept
    iintro ⟨Hh, Hv, HO, Hcr, Hp, HG⟩
    ihave Hc := (creds (F := F) c) $$ Hcr
    isplitl [Hh Hc HO Hp]
    · isplitl [Hh]; · iexact Hh
      isplitl [Hc]; · iexact Hc
      isplitl [HO]; · iexact HO
      iexists (ρ c); iexact Hp
    isplitl [Hv] <;> iassumption
  have hall : (bigSep Finset.univ fun c : Dev nD => iprop(unscopedBufs c (fun b => m ((c : Thread nD τ).loc b)) ∗ unscopedSems0 c
        ∗ owes (c : Thread nD τ) (O₀ c) ∅ ∗ Pipeline.launchCred O₀ c ∗ prngReg c (ρ c) ∗ stake c))
      ⊢ (iprop((bigSep Finset.univ fun c => kept m c) ∗ (bigSep Finset.univ fun c : Dev nD => semVal (barCell c) 0) ∗ bigSep Finset.univ fun c => stake c) : sProp 𝕄) := by
    rw [← bigSep_sep', ← bigSep_sep']
    exact bigSep_mono hcore
  refine (sep_mono_left hall).trans ?_
  iintro ⟨⟨HB, Hv, HG⟩, -⟩
  ihave Hu := (Entails.of_eq (stakes (F := F))) $$ HG
  ihave Hv := (Entails.of_eq (bars_deal (F := F) fun g => semVal g 0).symm) $$ Hv
  imod (Rounds.fund_launch ER (moeRd (args m)) cells_disjoint (fun g _ h => h) toks) $$ [Hv Hu] with ⟨%κ, -, Hinv, Hr, Hat, Hopen, Htok⟩
  · isplitl [Hv] <;> iassumption
  imodintro
  ihave HR := (records_intro m κ) $$ [Hinv Hr]
  · isplitl [Hinv] <;> iassumption
  iapply (bigSep_with_persistent (R := records (args m) (fun ck => κ (kcell ck))) (Φ := fun c => iprop(dealt c ∗ kept m c)) fun c _ => first_intro m _ c)
  isplitl [HR]; · iexact HR
  rw [bigSep_sep']
  isplitr [HB]
  rotate_left
  · iexact HB
  ihave Htok := (Entails.of_eq (toks_own (F := F))) $$ Htok
  ihave Htok := (toks_deal (F := F)) $$ Htok
  ihave Hat := (Entails.of_eq (bars_deal (F := F) fun g => atPos ER g 0 ∅ 0)) $$ Hat
  ihave Hopen := (Entails.of_eq (open_deal (F := F))) $$ Hopen
  icases Htok with ⟨Hb, Hd⟩
  iapply (dealt_intro (F := F))
  isplitl [Hb]; · iexact Hb
  isplitl [Hat]; · iexact Hat
  isplitl [Hd] <;> iassumption

/-- A semaphore outside the region is the barrier's. -/
theorem unscoped_eq : ∀ sm : SemLoc sig, sm.isScoped .tc = false → sm = .reg barS := by decide

/-! ## The run -/

set_option backward.isDefEq.respectTransparency.types false in
/-- From any memory, with all semaphores at rest, every fair run of the program ends; in the end every device's arguments
    are as they were, its result is `outOf` of the arguments, and all semaphores are at rest. -/
theorem run_main : θ_run defs (onTc (τ := τ) (main (F := F))) (s₀ m ρ)
    (fun r => (∀ c : Dev nD, (r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3))
        ∧ r.2.mem ((c : Thread nD τ).loc main_v2) = outOf (args m) c) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := stake) (u₀ := u₀ (F := F))
    (hu₀ := by
      unfold u₀
      iintro Hu
      ihave H := (ownU_pair _ _) $$ Hu
      icases H with ⟨HP, HX⟩
      imodintro
      isplitl [HP]; · iexact HP
      ihave HX := (stake_own (F := F)) $$ HX
      rw [stakes]; iexact HX)
    (T₀ := first m) (Tₙ := final m)
    (hch := ⟨fun c => .rfl, reg_pre m, reg_post m⟩)
    (hinit := init m ρ)
    (QY := fun c s => ((s.mem ((c : Thread nD τ).loc main_arg0) = m ((c : Thread nD τ).loc main_arg0)
        ∧ s.mem ((c : Thread nD τ).loc main_arg1) = m ((c : Thread nD τ).loc main_arg1)
        ∧ s.mem ((c : Thread nD τ).loc main_arg2) = m ((c : Thread nD τ).loc main_arg2)
        ∧ s.mem ((c : Thread nD τ).loc main_arg3) = m ((c : Thread nD τ).loc main_arg3))
        ∧ s.mem ((c : Thread nD τ).loc main_v2) = outOf (args m) c) ∧ s.sem (barCell c) = 0)
    (hfin := fun c s' => by
      unfold final
      iintro ⟨⟨⟨H0, H1, H2, H3, H4⟩, Hb⟩, HSI⟩
      icombine HSI H0 gives %h0
      icombine HSI H1 gives %h1
      icombine HSI H2 gives %h2
      icombine HSI H3 gives %h3
      icombine HSI H4 gives %h4
      icombine HSI Hb gives %hb
      imodintro
      isplitr
      · ipureintro
        exact ⟨⟨⟨Buf.eq_of_forall_mem_univ h0, Buf.eq_of_forall_mem_univ h1, Buf.eq_of_forall_mem_univ h2, Buf.eq_of_forall_mem_univ h3⟩,
          Buf.eq_of_forall_mem_univ h4⟩, by simpa using hb⟩
      iexact HSI)
    (hQ := fun s h hs => ⟨fun c => (h c).1, sem_eq_zero hs fun c sm hsm => by rw [unscoped_eq sm hsm]; exact (h c).2⟩)

end Cert.MoeProof

end
-- ==== Proof.Frames.lean ====
/-
  The frames: the kernel and the reference run from any memory, leave their arguments as they were and every semaphore at
  rest. The kernel's run (`run_main`) is stated for any float values, so it serves the program as printed and its reading
  at exact values alike.
-/
module

public import proofs.«01_k».proof.Defs
public import proofs.«01_k».proof.Proof.Launch
public import proofs.«01_k».proof.Proof.Gen.Kernel
public import proofs.«01_k».proof.Proof.Gen.ReferenceIdeal
public import proofs.«01_k».proof.Proof.Gen.ReferenceIdeal.Run

@[expose] public section

noncomputable section

namespace Cert.MoeProof

open Idealize.ShloMosaic Idealize.SL.Sem

/-- The kernel read at exact values runs from every memory, its arguments unchanged and its semaphores at rest. -/
theorem frame_ideal : Cert.quiescent_KernelIdeal (hKernelIdeal := Cert.KernelIdeal.Gen.facts) := fun m ρ _ =>
  (θ_run Cert.KernelIdeal.defs _ _).mono (fun _ h => ⟨fun c => (h.1 c).1, h.2⟩) (run_main (F := Ideal) m ρ)

set_option maxRecDepth 100000 in
/-- The two printings of the kernel have the same body. -/
theorem body_same : Cert.Kernel.cc0_body (F := Bits) = Cert.KernelIdeal.cc0_body (F := Bits) := rfl

set_option maxRecDepth 100000 in
/-- The two printings of the kernel have the same table of bodies. -/
theorem bodies_same : Cert.Kernel.defs₀ (F := Bits) = Cert.KernelIdeal.defs₀ (F := Bits) := by
  unfold Cert.Kernel.defs₀ Cert.KernelIdeal.defs₀
  refine congrArg Defs.onTc ?_
  funext l a
  obtain rfl : l = (0 : Fin 1) := Subsingleton.elim _ _
  obtain ⟨t, s⟩ := a
  rfl

/-- So they have the same table with the staged call's own entries. -/
theorem tables_same : Cert.Kernel.defs (F := Bits) = Cert.KernelIdeal.defs (F := Bits) :=
  congrArg (Pipeline.defs (Cert.KernelIdeal.pcfgs (F := Bits))) bodies_same

/-- The kernel as printed runs from every memory, its arguments unchanged and its semaphores at rest. -/
theorem frame_kernel : Cert.quiescent_Kernel (hKernel := Cert.Kernel.Gen.facts) := fun m ρ _ => by
  rw [show Cert.Kernel.defs (F := Bits) = Cert.KernelIdeal.defs (F := Bits) from tables_same]
  exact (θ_run Cert.KernelIdeal.defs _ _).mono (fun _ h => ⟨fun c => (h.1 c).1, h.2⟩) (run_main (F := Bits) m ρ)

/-- The reference runs from every memory, its arguments unchanged; it has no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.MoeProof

end
-- ==== Proof.Products.lean ====
/-
  The kernel's vector computations read at one index, over the extended reals: each product is the sum over its contracted
  axis, and an expert's two products with the rectifier between them is `ffn` of the row.
-/
module

public import proofs.«01_k».proof.Proof.Contents
public import Idealize.ShloMosaic.Lib.Pointwise

@[expose] public section

noncomputable section

namespace Cert.MoeProof

open Cert.KernelIdeal Cert.KernelIdeal.Gen
open Idealize.ShloMosaic

/-- One expert applied to one row: a product, the rectifier, a second product. -/
def ffn (w1 : Fin 1024 → Fin 2048 → EReal) (w2 : Fin 2048 → Fin 1024 → EReal) (r : Fin 1024 → EReal) (j : Fin 1024) : EReal :=
  ∑ f : Fin 2048, max (∑ d : Fin 1024, r d * w1 d f) 0 * w2 f j

/-- The packing product. -/
theorem pack_apply (s : FVec Ideal S576x1024 .bf16) (x : FVec Ideal S1024x1024 .bf16) (k : Fin 576) (d : Fin 1024) :
    k0_pay12 s x (ix2 k d) = ∑ t : Fin 1024, s (ix2 k t) * x (ix2 t d) := by
  pointwise [k0_pay12, dot_S576x1024_S1024x1024_S576x1024_1_0_0_1_n_n]

/-- An expert on a block of 288 rows. -/
theorem own_apply (b : FVec Ideal S288x1024 .bf16) (w1 : FVec Ideal S1x1024x2048 .f32) (w2 : FVec Ideal S1x2048x1024 .f32) (k : Fin 288) (j : Fin 1024) :
    k0_pay14 (F := Ideal) b w1 w2 (ix2 k j) = ffn (fun d f => w1 (ix3 0 d f)) (fun f j => w2 (ix3 0 f j)) (fun d => b (ix2 k d)) j := by
  pointwise [k0_pay14, ffn, dot_S288x1024_S1024x2048_S288x2048_1_0_0_1_n_n, dot_S288x2048_S2048x1024_S288x1024_1_0_0_1_n_n]

/-- An expert on a slot of 144 rows. -/
theorem slot_apply (b : FVec Ideal S1x144x1024 .bf16) (w1 : FVec Ideal S1x1024x2048 .f32) (w2 : FVec Ideal S1x2048x1024 .f32) (k : Fin 144) (j : Fin 1024) :
    k0_pay15 (F := Ideal) b w1 w2 (ix3 0 k j) = ffn (fun d f => w1 (ix3 0 d f)) (fun f j => w2 (ix3 0 f j)) (fun d => b (ix3 0 k d)) j := by
  pointwise [k0_pay15, ffn, dot_S144x1024_S1024x2048_S144x2048_1_0_0_1_n_n, dot_S144x2048_S2048x1024_S144x1024_1_0_0_1_n_n]

/-- An expert on half a slot, 72 rows. -/
theorem half_apply (b : FVec Ideal S1x72x1024 .bf16) (w1 : FVec Ideal S1x1024x2048 .f32) (w2 : FVec Ideal S1x2048x1024 .f32) (k : Fin 72) (j : Fin 1024) :
    k0_pay20 (F := Ideal) (k0_pay19 b w1) w2 (ix3 0 k j) = ffn (fun d f => w1 (ix3 0 d f)) (fun f j => w2 (ix3 0 f j)) (fun d => b (ix3 0 k d)) j := by
  pointwise [k0_pay20, k0_pay19, ffn, dot_S72x1024_S1024x2048_S72x2048_1_0_0_1_n_n, dot_S72x2048_S2048x1024_S72x1024_1_0_0_1_n_n]

/-- The unpacking product, in its two halves. -/
theorem unpack_apply (s y s' y' : FVec Ideal S576x1024 .bf16) (t j : Fin 1024) :
    k0_pay26 (F := Ideal) (k0_pay25 s y) s' y' (ix2 t j)
      = (∑ k : Fin 576, s (ix2 k t) * y (ix2 k j)) + ∑ k : Fin 576, s' (ix2 k t) * y' (ix2 k j) := by
  pointwise [k0_pay26, k0_pay25, dot_S576x1024_S576x1024_S1024x1024_0_0_1_1_n_n]

/-- A test's bit, widened and read as a number. -/
theorem bit_apply (b : Bool) : (FloatOps.sitofp .f32 (BitVec.setWidth 32 (BitVec.ofBool b)) : Ideal .f32) = if b then 1 else 0 := by
  cases b
  · show (((BitVec.setWidth 32 (BitVec.ofBool false)).toInt : ℝ) : EReal) = _
    norm_num [show (BitVec.setWidth 32 (BitVec.ofBool false)).toInt = 0 from by decide]
  · show (((BitVec.setWidth 32 (BitVec.ofBool true)).toInt : ℝ) : EReal) = _
    rw [show (BitVec.setWidth 32 (BitVec.ofBool true)).toInt = 1 from by decide]
    norm_num

/-- The signed value of a word that holds a small number. -/
theorem toInt_small (n : ℕ) (h : n < 2 ^ 31) : (BitVec.ofNat 32 n).toInt = n := by
  have hn : (BitVec.ofNat 32 n).toNat = n := by rw [BitVec.toNat_ofNat]; omega
  rw [BitVec.toInt_eq_toNat_of_lt (by rw [hn]; omega), hn]

/-- The selection matrix marks, in the column of each token, the row of its key. -/
theorem sel_apply (a r : IVec S1024x1 32) (k : Fin 1152) (t : Fin 1024) :
    k0_pay11 (F := Ideal) a r (ix2 k t)
      = if BitVec.ofNat 32 k.val = (if (r (ix2 t 0)).slt 288#32 then a (ix2 t 0) * 288#32 + r (ix2 t 0) else 1152#32) then 1 else 0 := by
  pointwise [k0_pay11]
  refine (bit_apply _).trans ?_
  cases h : (r (ix2 t 0)).slt 288#32 <;> simp [Scalar.select, IntOp.cmpi, IntOp.addi, IntOp.muli, h]

/-- The marks of the experts: one where a token's expert is the column's. -/
theorem mark_apply (a : IVec S1024x1 32) (t : Fin 1024) (e : Fin 4) :
    k0_pay2 (F := Ideal) a (ix2 t e) = if a (ix2 t 0) = BitVec.ofNat 32 e.val then 1 else 0 := by
  pointwise [k0_pay2, k0_pay1]
  refine (bit_apply _).trans ?_
  simp

/-- The strictly lower triangle. -/
theorem lower_apply (i k : Fin 128) : k0_pay3 (F := Ideal) (ix2 i k) = if k.val < i.val then 1 else 0 := by
  pointwise [k0_pay3]
  refine (bit_apply _).trans ?_
  have hi := i.isLt
  have hk := k.isLt
  show (if (BitVec.ofNat 32 k.val).slt (BitVec.ofNat 32 i.val) = true then (1 : EReal) else 0) = _
  rw [BitVec.slt, toInt_small _ (by omega), toInt_small _ (by omega)]
  simp

end Cert.MoeProof

end
-- ==== Proof.Ranks.lean ====
/-
  The rank the kernel computes for a token is the number of earlier tokens of the same expert.  The kernel counts in blocks of
  128 tokens: a product with the strictly lower triangle inside a block, and the column sums of the blocks before it.
-/
module

public import proofs.«01_k».proof.Proof.Products

@[expose] public section

noncomputable section

namespace Cert.MoeProof

open Cert.KernelIdeal Cert.KernelIdeal.Gen
open Idealize.ShloMosaic

/-- Token `n` is there and its expert is `e`. -/
def isTok (a : IVec S1024x1 32) (e n : ℕ) : Prop := ∃ h : n < 1024, a (ix2 ⟨n, h⟩ 0) = BitVec.ofNat 32 e

instance (a : IVec S1024x1 32) (e : ℕ) : DecidablePred (isTok a e) := fun n => by unfold isTok; infer_instance

/-- The number of tokens of expert `e` before token `n`. -/
def before (a : IVec S1024x1 32) (e n : ℕ) : ℕ := Nat.count (isTok a e) n

/-- Token `n`'s mark for expert `e`, zero past the last token. -/
def mk (a : IVec S1024x1 32) (e n : ℕ) : EReal := if isTok a e n then 1 else 0

/-- The kernel's mark is the mark of the token. -/
theorem mark_mk (a : IVec S1024x1 32) (n : ℕ) (h : n < 1024) (e : Fin 4) : k0_pay2 (F := Ideal) a (ix2 ⟨n, h⟩ e) = mk a e.val n := by
  rw [mark_apply]
  unfold mk isTok
  simp [h]

/-- The marks before a token add up to the number of tokens before it. -/
theorem sum_mk (a : IVec S1024x1 32) (e n : ℕ) : ∑ m ∈ Finset.range n, mk a e m = ((before a e n : ℕ) : EReal) := by
  induction n with
  | zero => simp [before]
  | succ n ih =>
    rw [Finset.sum_range_succ, ih]
    unfold before mk
    rw [Nat.count_succ]
    split <;> simp

/-- A column sum of the marks of a block of 128 tokens. -/
theorem col_mk (a : IVec S1024x1 32) (e : Fin 4) (c : ℕ) (h : ∀ k : Fin 128, c + k.val < 1024) :
    ∑ k : Fin 128, k0_pay2 (F := Ideal) a (ix2 ⟨c + k.val, h k⟩ e) = ∑ n ∈ Finset.range 128, mk a e.val (c + n) := by
  simp only [mark_mk]
  exact Fin.sum_univ_eq_sum_range (fun n => mk a e.val (c + n)) 128

/-- The same for the first block. -/
theorem col_mk0 (a : IVec S1024x1 32) (e : Fin 4) (h : ∀ k : Fin 128, k.val < 1024) :
    ∑ k : Fin 128, k0_pay2 (F := Ideal) a (ix2 ⟨k.val, h k⟩ e) = ∑ n ∈ Finset.range 128, mk a e.val n := by
  simp only [mark_mk]
  exact Fin.sum_univ_eq_sum_range (fun n => mk a e.val n) 128

/-- A row of the strictly lower triangle against a column is the sum of the entries before the row. -/
theorem below_sum (f : ℕ → EReal) (i : ℕ) (hi : i < 128) : ∑ k : Fin 128, k0_pay3 (F := Ideal) (ix2 ⟨i, hi⟩ k) * f k.val = ∑ n ∈ Finset.range i, f n := by
  simp only [lower_apply]
  rw [Fin.sum_univ_eq_sum_range (fun n => (if n < i then (1 : EReal) else 0) * f n) 128]
  simp only [ite_mul, one_mul, zero_mul]
  rw [← Finset.sum_filter]
  refine Finset.sum_congr (Finset.ext fun n => ?_) fun _ _ => rfl
  simp only [Finset.mem_filter, Finset.mem_range]
  omega

/-- The triangle against a block of marks. -/
theorem tri_mk (a : IVec S1024x1 32) (e : Fin 4) (i : ℕ) (hi : i < 128) (c : ℕ) (h : ∀ k : Fin 128, c + k.val < 1024) :
    ∑ k : Fin 128, k0_pay3 (F := Ideal) (ix2 ⟨i, hi⟩ k) * k0_pay2 (F := Ideal) a (ix2 ⟨c + k.val, h k⟩ e) = ∑ n ∈ Finset.range i, mk a e.val (c + n) := by
  simp only [mark_mk]
  exact below_sum (fun n => mk a e.val (c + n)) i hi

/-- The same for the first block. -/
theorem tri_mk0 (a : IVec S1024x1 32) (e : Fin 4) (i : ℕ) (hi : i < 128) (h : ∀ k : Fin 128, k.val < 1024) :
    ∑ k : Fin 128, k0_pay3 (F := Ideal) (ix2 ⟨i, hi⟩ k) * k0_pay2 (F := Ideal) a (ix2 ⟨k.val, h k⟩ e) = ∑ n ∈ Finset.range i, mk a e.val n := by
  simp only [mark_mk]
  exact below_sum (fun n => mk a e.val n) i hi

/-- A sum up to `c` and the next `n` entries make the sum up to `c + n`. -/
theorem join (f : ℕ → EReal) (c n : ℕ) : ∑ m ∈ Finset.range c, f m + ∑ m ∈ Finset.range n, f (c + m) = ∑ m ∈ Finset.range (c + n), f m :=
  (Finset.sum_range_add f c n).symm

/-- The same with the two parts in the other order. -/
theorem join' (f : ℕ → EReal) (c n : ℕ) : ∑ m ∈ Finset.range n, f (c + m) + ∑ m ∈ Finset.range c, f m = ∑ m ∈ Finset.range (c + n), f m := by
  rw [add_comm, join]

set_option maxHeartbeats 1600000 in
/-- The rank before it is made a word: the token's own marks against the numbers of earlier tokens. -/
theorem rank_sum (a : IVec S1024x1 32) (t : Fin 1024) :
    rankOf (F := Ideal) a (ix2 t 0) = Ideal.fptosi 32 (∑ e : Fin 4, ((before a e.val t.val : ℕ) : EReal) * mk a e.val t.val) := by
  pointwise [rankOf, k0_pay10, k0_pay6, k0_pay7, k0_pay8, k0_pay9, k0_pay5, k0_pay4, dot_S128x128_S128x4_S128x4_1_0_0_1_n_n]
  refine congrArg (Ideal.fptosi 32) (Finset.sum_congr rfl fun e _ => ?_)
  rw [← sum_mk, ← mark_mk a t.val t.isLt e]
  refine congrArg (fun s : EReal => s * k0_pay2 (F := Ideal) a (ix2 t e)) ?_
  have ht := t.isLt
  simp only [tri_mk0, tri_mk, col_mk0, col_mk, join, join', Nat.reduceAdd]
  generalize mk a e.val = f
  split_ifs <;> first | rfl | (congr 2; omega)

/-- A natural number read as a word is that word. -/
theorem fptosi_nat (n : ℕ) (h : n < 2 ^ 31) : Ideal.fptosi 32 ((n : ℕ) : EReal) = BitVec.ofNat 32 n := by
  rw [show ((n : ℕ) : EReal) = (((n : ℕ) : ℝ) : EReal) from rfl]
  show BitVec.ofInt 32 (max _ (min _ (if (0 : ℝ) ≤ (n : ℝ) then ⌊(n : ℝ)⌋ else ⌈(n : ℝ)⌉))) = _
  rw [if_pos (Nat.cast_nonneg n), Int.floor_natCast, min_eq_right (by norm_num; omega), max_eq_right (by norm_num)]
  exact BitVec.ofInt_natCast 32 n

/-- The rank of a token whose expert is `e` is the number of earlier tokens of `e`. -/
theorem rank_apply (a : IVec S1024x1 32) (t : Fin 1024) (e : Fin 4) (he : a (ix2 t 0) = BitVec.ofNat 32 e.val) :
    rankOf (F := Ideal) a (ix2 t 0) = BitVec.ofNat 32 (before a e.val t.val) := by
  have hb : before a e.val t.val ≤ t.val := Nat.count_le _
  rw [rank_sum, ← fptosi_nat _ (by omega)]
  refine congrArg (Ideal.fptosi 32) ?_
  rw [Finset.sum_eq_single e]
  · rw [show mk a e.val t.val = 1 from if_pos ⟨t.isLt, he⟩, mul_one]
  · intro e' _ hne
    have hn : ¬ isTok a e'.val t.val := by
      rintro ⟨_, h⟩
      have h2 : BitVec.ofNat 32 e.val = BitVec.ofNat 32 e'.val := he.symm.trans h
      have h3 := congrArg BitVec.toNat h2
      rw [BitVec.toNat_ofNat, BitVec.toNat_ofNat] at h3
      exact hne (Fin.ext (by omega))
    rw [show mk a e'.val t.val = 0 from if_neg hn, mul_zero]
  · intro h
    exact absurd (Finset.mem_univ e) h

end Cert.MoeProof

end
-- ==== Proof.Keys.lean ====
/-
  Where every token goes.  While the experts of a device's tokens are four and none has more than 288 of its tokens, a token's
  key is a row of the packed buffer, no two tokens have the same key, and the selection matrix has a one exactly at the keys.
-/
module

public import proofs.«01_k».proof.Proof.Ranks

@[expose] public section

noncomputable section

namespace Cert.MoeProof

open Cert.KernelIdeal Cert.KernelIdeal.Gen
open Idealize.ShloMosaic

/-- The expert of token `t`. -/
def ex (a : IVec S1024x1 32) (t : Fin 1024) : ℕ := (a (ix2 t 0)).toNat

/-- The tokens' experts are four, and none has more than 288 tokens. -/
structure Fits (a : IVec S1024x1 32) : Prop where
  ids : ∀ t, ex a t < 4
  room : ∀ e < 4, before a e 1024 ≤ 288

/-- The packed row of token `t`: the rows of its expert start at 288 times the expert, the tokens of one expert follow in order. -/
def key (a : IVec S1024x1 32) (t : Fin 1024) : ℕ := 288 * ex a t + before a (ex a t) t.val

/-- A token's entry is the word of its expert's number. -/
theorem ex_word (a : IVec S1024x1 32) (t : Fin 1024) : a (ix2 t 0) = BitVec.ofNat 32 (ex a t) := by
  unfold ex
  rw [BitVec.ofNat_toNat, BitVec.setWidth_eq]

/-- A token is a token of its own expert. -/
theorem ex_isTok (a : IVec S1024x1 32) (t : Fin 1024) : isTok a (ex a t) t.val := ⟨t.isLt, ex_word a t⟩

variable {a : IVec S1024x1 32} (h : Fits a)

include h in
/-- Every token finds room. -/
theorem before_lt (t : Fin 1024) : before a (ex a t) t.val < 288 :=
  lt_of_lt_of_le (Nat.count_strict_mono (ex_isTok a t) t.isLt) (h.room _ (h.ids t))

include h in
/-- A key is a row of the packed buffer. -/
theorem key_lt (t : Fin 1024) : key a t < 1152 := by
  have h1 := h.ids t
  have h2 := before_lt h t
  unfold key
  omega

include h in
/-- The stretch of 288 rows that a key lies in is the token's expert. -/
theorem key_div (t : Fin 1024) : key a t / 288 = ex a t := by
  have h2 := before_lt h t
  unfold key
  omega

include h in
/-- No two tokens have the same row. -/
theorem key_inj {t t' : Fin 1024} (hk : key a t = key a t') : t = t' := by
  have he : ex a t = ex a t' := by rw [← key_div h t, ← key_div h t', hk]
  have hb : before a (ex a t) t.val = before a (ex a t) t'.val := by
    unfold key at hk
    rw [← he] at hk
    omega
  exact Fin.ext (Nat.count_injective (ex_isTok a t) (he ▸ ex_isTok a t') hb)

include h in
/-- The selection matrix has a one at the row of each token and zeros elsewhere. -/
theorem sel_key (G : Args Ideal) (c : Dev nD) (hG : G.a c = a) (k : Fin 1152) (t : Fin 1024) :
    selOf G c (ix2 k t) = if k.val = key a t then 1 else 0 := by
  have hb := before_lt h t
  have hi := h.ids t
  have hr : rankOf (F := Ideal) a (ix2 t 0) = BitVec.ofNat 32 (before a (ex a t) t.val) := rank_apply a t ⟨ex a t, h.ids t⟩ (ex_word a t)
  have hp : k0_pay1 (F := Ideal) a (ix2 t 0) = a (ix2 t 0) := by pointwise [k0_pay1]
  unfold selOf
  rw [hG, sel_apply, hr, hp, ex_word a t]
  have hlt : (BitVec.ofNat 32 (before a (ex a t) t.val)).slt 288#32 = true := by
    rw [BitVec.slt, toInt_small _ (by omega), show (288#32 : BitVec 32).toInt = 288 from by decide]
    simp only [decide_eq_true_eq]
    omega
  rw [if_pos hlt]
  have hw : BitVec.ofNat 32 (ex a t) * 288#32 + BitVec.ofNat 32 (before a (ex a t) t.val) = BitVec.ofNat 32 (key a t) := by
    unfold key
    rw [BitVec.ofNat_add, BitVec.ofNat_mul, BitVec.mul_comm]
  rw [hw]
  refine if_congr ⟨fun e => ?_, fun e => by rw [e]⟩ rfl rfl
  have hk := key_lt h t
  have hk' := k.isLt
  have e' := congrArg BitVec.toNat e
  rw [BitVec.toNat_ofNat, BitVec.toNat_ofNat] at e'
  omega

/-- A block of rows that lies in the buffer. -/
theorem rowBlk_apply (v : FVec Ideal S1152x1024 .bf16) (lo n : ℕ) (k : Fin n) (j : Fin 1024) (hl : lo + k.val < 1152) :
    rowBlk lo n v (ix2 k j) = v (ix2 ⟨lo + k.val, hl⟩ j) := dif_pos hl

include h in
/-- The packed row of a token is the token. -/
theorem buf_key (G : Args Ideal) (c : Dev nD) (hG : G.a c = a) (t d : Fin 1024) :
    bufOf G c (ix2 ⟨key a t, key_lt h t⟩ d) = G.x c (ix2 t d) := by
  have hk := key_lt h t
  have hl : 576 * (key a t / 576) + key a t % 576 = key a t := Nat.div_add_mod _ _
  have hrow : ∀ u : Fin 1024, rowBlk (576 * (key a t / 576)) 576 (selOf G c) (ix2 ⟨key a t % 576, Nat.mod_lt _ (by decide)⟩ u)
      = if u = t then 1 else 0 := fun u => by
    rw [rowBlk_apply _ _ _ _ _ (by show _ + key a t % 576 < 1152; omega), sel_key h G c hG]
    refine if_congr ?_ rfl rfl
    show 576 * (key a t / 576) + key a t % 576 = key a u ↔ u = t
    rw [hl]
    exact ⟨fun e => (key_inj h e).symm, fun e => by rw [e]⟩
  refine (pack_apply _ _ _ _).trans ?_
  refine (Finset.sum_congr rfl fun u _ => congrArg (· * G.x c (ix2 u d)) (hrow u)).trans ?_
  simp only [ite_mul, one_mul, zero_mul, Finset.sum_ite_eq', Finset.mem_univ, if_true]

include h in
/-- One half of the unpacking product: the token's row if it is in that half, nothing otherwise. -/
theorem half_sum (G : Args Ideal) (c : Dev nD) (hG : G.a c = a) (y : FVec Ideal S1152x1024 .bf16) (lo : ℕ) (hlo : lo ≤ 576) (t j : Fin 1024) :
    ∑ k : Fin 576, rowBlk lo 576 (selOf G c) (ix2 k t) * rowBlk lo 576 y (ix2 k j)
      = if lo ≤ key a t ∧ key a t < lo + 576 then y (ix2 ⟨key a t, key_lt h t⟩ j) else 0 := by
  have hterm : ∀ k : Fin 576, rowBlk lo 576 (selOf G c) (ix2 k t) * rowBlk lo 576 y (ix2 k j)
      = if lo + k.val = key a t then y (ix2 ⟨key a t, key_lt h t⟩ j) else 0 := fun k => by
    have hk := k.isLt
    have hl : lo + k.val < 1152 := by omega
    rw [rowBlk_apply _ _ _ _ _ hl, rowBlk_apply _ _ _ _ _ hl, sel_key h G c hG, ite_mul, one_mul, zero_mul]
    by_cases e : lo + k.val = key a t
    · rw [if_pos e, if_pos e]
      exact congrArg (fun n => y (ix2 n j)) (Fin.ext e)
    · rw [if_neg e, if_neg e]
  rw [Finset.sum_congr rfl fun k _ => hterm k]
  by_cases hin : lo ≤ key a t ∧ key a t < lo + 576
  · rw [if_pos hin, Finset.sum_eq_single ⟨key a t - lo, by omega⟩]
    · exact if_pos (by show lo + (key a t - lo) = _; omega)
    · intro k _ hne
      exact if_neg fun e => hne (Fin.ext (by show k.val = key a t - lo; omega))
    · intro hn
      exact absurd (Finset.mem_univ _) hn
  · rw [if_neg hin]
    exact Finset.sum_eq_zero fun k _ => if_neg fun e => hin (by have := k.isLt; omega)

include h in
/-- The device's result for a token is its row of the results. -/
theorem out_key (G : Args Ideal) (c : Dev nD) (hG : G.a c = a) (t j : Fin 1024) :
    outOf G c (ix2 t j) = yOf G c (ix2 ⟨key a t, key_lt h t⟩ j) := by
  have hz := zc_lt c
  have hk := key_lt h t
  unfold outOf
  rw [unpack_apply, half_sum h G c hG _ _ (by omega), half_sum h G c hG _ _ (by omega)]
  by_cases hin : 576 * zc c ≤ key a t ∧ key a t < 576 * zc c + 576
  · rw [if_pos hin, if_neg (by omega), add_zero]
  · rw [if_neg hin, if_pos (by omega), zero_add]

end Cert.MoeProof

end
-- ==== Proof.Fitting.lean ====
/-
  The precondition: every token's expert is one of the four, and on each device none of them has more than 288 tokens.
-/
module

public import proofs.«01_k».proof.Defs
public import proofs.«01_k».proof.Proof.Keys
public import proofs.«01_k».proof.Proof.Region
public import Idealize.ShloMosaic.Lib.Routing.Ops

@[expose] public section

noncomputable section

namespace Cert.MoeProof

open Cert.KernelIdeal Cert.KernelIdeal.Gen
open Idealize.ShloMosaic

/-- The side conditions of the precondition's text, read of a device of the kernel. -/
theorem pre_facts : Cert.Pre_experts_fit_KernelIdeal.Facts where
  bcast_S_S1024 := by decide
  bcast_S1024_S1x1024_1 := by decide
  bcast_S4_S4x1_0 := by decide
  bcast_S1x1024_S4x1024_0_1 := by decide
  bcast_S4x1_S4x1024_0_1 := by decide
  natLt_1_32 := by decide
  reducesTo_S4x1024_S4_d1 := by decide
  h_S_ := by decide
  bcast_S_S4 := by decide

/-- The same, read of the reference. -/
theorem pre_facts_reference : Cert.Pre_experts_fit_ReferenceIdeal.Facts where
  bcast_S_S2048 := by decide
  bcast_S2048_S1x2048_1 := by decide
  bcast_S4_S4x1_0 := by decide
  bcast_S1x2048_S4x2048_0_1 := by decide
  bcast_S4x1_S4x2048_0_1 := by decide
  natLt_1_32 := by decide
  reducesTo_S4x2048_S4_d1 := by decide
  h_S_ := by decide
  bcast_S_S4 := by decide

/-- The kernel reads the device's experts as a column. -/
theorem args_a (m : (ℓ : Loc nD τ sig) → Buf (Elt Ideal) ℓ) (c : Dev nD) (t : Fin 1024) :
    (args m).a c (ix2 t 0) = (m ((c.tc : Thread nD τ).loc main_arg1) : IVec S1024 32) (ix1 t) := by
  have h : (args m).a c = shapeCast S1024x1 (m ((c.tc : Thread nD τ).loc main_arg1) : IVec S1024 32) shapeCasts_S1024_S1024x1 := by
    show V m c main_v1 = _
    unfold V
    after_results_simp <;> rfl
  rw [h]
  pointwise []

/-- A word that is at least zero and less than four, as a natural number. -/
theorem lt_four (v : BitVec 32) (h : IntOp.andi (IntOp.cmpi .sge v 0#32) (IntOp.cmpi .slt v 4#32) = 1#1) : v.toNat < 4 := by
  have h0 : (0#32 : BitVec 32).sle v = true := by
    cases hb : (0#32 : BitVec 32).sle v with
    | true => rfl
    | false => simp [IntOp.andi, IntOp.cmpi, hb] at h
  have h4 : v.slt 4#32 = true := by
    cases hb : v.slt 4#32 with
    | true => rfl
    | false => simp [IntOp.andi, IntOp.cmpi, hb] at h
  rw [BitVec.sle, decide_eq_true_eq, show (0#32 : BitVec 32).toInt = 0 from by decide] at h0
  rw [BitVec.slt, decide_eq_true_eq, show (4#32 : BitVec 32).toInt = 4 from by decide] at h4
  have hv := v.isLt
  rw [BitVec.toInt_eq_toNat_cond] at h0 h4
  split at h0 <;> omega

/-- A count that, as a word, is at most 288. -/
theorem le_room (n : ℕ) (hn : n ≤ 1024) (h : IntOp.cmpi .sle (BitVec.ofNat 32 n) 288#32 = 1#1) : n ≤ 288 := by
  have h0 : (BitVec.ofNat 32 n).sle 288#32 = true := by
    cases hb : (BitVec.ofNat 32 n).sle 288#32 with
    | true => rfl
    | false => simp [IntOp.cmpi, hb] at h
  rw [BitVec.sle, decide_eq_true_eq, show (288#32 : BitVec 32).toInt = 288 from by decide, toInt_small n (by omega)] at h0
  omega

/-- What the precondition says of one device's experts. -/
theorem fits_of (x : FVec Ideal S1024x1024 .bf16) (b : IVec S1024 32) (w1 : FVec Ideal S2x1024x2048 .f32) (w2 : FVec Ideal S2x2048x1024 .f32)
    (a : IVec S1024x1 32) (hab : ∀ t : Fin 1024, a (ix2 t 0) = b (ix1 t))
    (h1 : (@Cert.Pre_experts_fit_KernelIdeal.fn pre_facts Ideal _ x b w1 w2).1 = fun _ => 1#1)
    (h2 : (@Cert.Pre_experts_fit_KernelIdeal.fn pre_facts Ideal _ x b w1 w2).2 = fun _ => 1#1) : Fits a where
  ids t := by
    have h := congrFun h1 (ix1 t)
    unfold Cert.Pre_experts_fit_KernelIdeal.fn at h
    pointwise [] at h
    unfold ex
    rw [hab]
    exact lt_four _ h
  room e he := by
    have h := congrFun h2 (ix1 ⟨e, he⟩)
    unfold Cert.Pre_experts_fit_KernelIdeal.fn at h
    dsimp only at h
    refine le_room _ (show before a e 1024 ≤ 1024 from Nat.count_le _) (Eq.trans ?_ h)
    refine congrArg (fun w => IntOp.cmpi .sle w 288#32) (Eq.symm ?_)
    refine (Routing.reduce_count (n := 4) (m := 1024) (by decide) _ _ _ _ ⟨e, he⟩ (isTok a e) fun q => ?_)
    have hm : ValueIdx.ix2 (⟨e, he⟩ : Fin 4) q = ix2 (⟨e, he⟩ : Fin 4) q := rfl
    rw [hm]
    pointwise []
    show BitVec.ofBool (b (ix1 q) == BitVec.ofNat 32 e) = 1#1 ↔ ∃ hq : q.val < 1024, a (ix2 ⟨q.val, hq⟩ 0) = BitVec.ofNat 32 e
    rw [StableHlo.Predicate.ofBool_eq_one_iff, beq_iff_eq, ← hab q]
    exact ⟨fun hq => ⟨q.isLt, hq⟩, fun ⟨_, hq⟩ => hq⟩

end Cert.MoeProof

end
-- ==== Proof.Experts.lean ====
/-
  The results of the packed rows: row `k` is the expert of the row's stretch of 288 applied to the packed row, whichever of the
  two devices of the pair computes it; and so a token's result is its expert applied to the token.
-/
module

public import proofs.«01_k».proof.Proof.Keys

@[expose] public section

noncomputable section

namespace Cert.MoeProof

open Cert.KernelIdeal Cert.KernelIdeal.Gen
open Idealize.ShloMosaic

/-- Equal matrices and equal rows give equal results. -/
theorem ffn_congr {w1 w1' : Fin 1024 → Fin 2048 → EReal} {w2 w2' : Fin 2048 → Fin 1024 → EReal} {r r' : Fin 1024 → EReal} (j : Fin 1024)
    (h1 : ∀ d f, w1 d f = w1' d f) (h2 : ∀ f j, w2 f j = w2' f j) (hr : ∀ d, r d = r' d) : ffn w1 w2 r j = ffn w1' w2' r' j := by
  rw [funext fun d => funext (h1 d), funext fun f => funext (h2 f), funext hr]

/-- The device of `c`'s pair that holds expert `q`. -/
def holder (c : Dev nD) (q : ℕ) : Dev nD := if q / 2 = zc c then c else pe c

/-- Expert `q`, as device `c`'s pair holds it, applied to one row. -/
def expertOf (G : Args Ideal) (c : Dev nD) (q : ℕ) (r : Fin 1024 → EReal) (j : Fin 1024) : EReal :=
  ffn (fun d f => G.w1 (holder c q) (ix3 ⟨q % 2, Nat.mod_lt _ (by decide)⟩ d f)) (fun f j => G.w2 (holder c q) (ix3 ⟨q % 2, Nat.mod_lt _ (by decide)⟩ f j)) r j

/-- The rows a device receives are its partner's packed rows of the device's own two experts. -/
theorem recv_row (G : Args Ideal) (c : Dev nD) (k : Fin 1152) (hk : k.val / 576 ≠ zc c) (s r : ℕ) (hs : s < 4) (hr : r < 144)
    (e : k.val % 576 = 144 * s + r) (d : Fin 1024) :
    recvOf G (pe c) (ix3 ⟨s, hs⟩ ⟨r, hr⟩ d) = bufOf G c (ix2 k d) := by
  have hz := zc_lt c
  have hz' := zc_pe c
  have hk' := k.isLt
  unfold recvOf
  rw [pe_pe]
  refine congrArg (fun n => bufOf G c (ix2 n d)) (Fin.ext ?_)
  show 576 * zc (pe c) + 144 * s + r = k.val
  rw [hz']
  omega

/-- A block of rows of a slot. -/
theorem slotBlk_apply (v : FVec Ideal S4x144x1024 .bf16) (r lo n : ℕ) (k : Fin n) (j : Fin 1024) (hr : r < 4) (hl : lo + k.val < 144) :
    slotBlk r lo n v (ix3 0 k j) = v (ix3 ⟨r, hr⟩ ⟨lo + k.val, hl⟩ j) := dif_pos ⟨hr, hl⟩

/-- The result of a packed row whose expert is the partner's. -/
theorem pbuf_row (G : Args Ideal) (c : Dev nD) (k : Fin 1152) (hk : k.val / 576 ≠ zc c) (j : Fin 1024) :
    pbufOf G (pe c) (ix3 ⟨(k.val % 576) / 144, by omega⟩ ⟨k.val % 144, Nat.mod_lt _ (by decide)⟩ j)
      = expertOf G c (k.val / 288) (fun d => bufOf G c (ix2 k d)) j := by
  have hz := zc_lt c
  have hk' := k.isLt
  have hd : holder c (k.val / 288) = pe c := if_neg (by omega)
  have hs : (k.val % 576) / 144 < 4 := by omega
  have hlt : k.val % 144 < 144 := Nat.mod_lt _ (by decide)
  unfold expertOf
  rw [hd]
  by_cases h3 : (k.val % 576) / 144 < 3
  · refine (if_pos h3).trans ?_
    refine (slot_apply _ _ _ _ _).trans ?_
    have hq : (k.val % 576) / 144 / 2 % 2 = k.val / 288 % 2 := by omega
    have hrow : ∀ d, slotBlk ((k.val % 576) / 144) 0 144 (recvOf G (pe c)) (ix3 0 ⟨k.val % 144, hlt⟩ d) = bufOf G c (ix2 k d) := fun d => by
      rw [slotBlk_apply _ _ _ _ _ _ hs (by show 0 + k.val % 144 < 144; omega)]
      exact recv_row G c k hk _ _ _ _ (by show k.val % 576 = 144 * (k.val % 576 / 144) + (0 + k.val % 144); omega) d
    have he : (⟨(k.val % 576) / 144 / 2 % 2, Nat.mod_lt _ (by decide)⟩ : Fin 2) = ⟨k.val / 288 % 2, Nat.mod_lt _ (by decide)⟩ := Fin.ext hq
    exact ffn_congr j (fun d f => congrArg (fun q => G.w1 (pe c) (ix3 q d f)) he) (fun f j => congrArg (fun q => G.w2 (pe c) (ix3 q f j)) he) hrow
  · refine (if_neg h3).trans ?_
    refine (half_apply _ _ _ _ _).trans ?_
    have hq : 1 % 2 = k.val / 288 % 2 := by omega
    have hrow : ∀ d, slotBlk 3 (72 * (k.val % 144 / 72)) 72 (recvOf G (pe c)) (ix3 0 ⟨k.val % 144 % 72, Nat.mod_lt _ (by decide)⟩ d) = bufOf G c (ix2 k d) := fun d => by
      rw [slotBlk_apply _ _ _ _ _ _ (by decide) (by show 72 * (k.val % 144 / 72) + k.val % 144 % 72 < 144; omega)]
      exact recv_row G c k hk _ _ _ _ (by show k.val % 576 = 144 * 3 + (72 * (k.val % 144 / 72) + k.val % 144 % 72); omega) d
    have he : (⟨1 % 2, Nat.mod_lt _ (by decide)⟩ : Fin 2) = ⟨k.val / 288 % 2, Nat.mod_lt _ (by decide)⟩ := Fin.ext hq
    exact ffn_congr j (fun d f => congrArg (fun q => G.w1 (pe c) (ix3 q d f)) he) (fun f j => congrArg (fun q => G.w2 (pe c) (ix3 q f j)) he) hrow

/-- The result of any packed row. -/
theorem y_row (G : Args Ideal) (c : Dev nD) (k : Fin 1152) (j : Fin 1024) :
    yOf G c (ix2 k j) = expertOf G c (k.val / 288) (fun d => bufOf G c (ix2 k d)) j := by
  have hk' := k.isLt
  by_cases hk : k.val / 576 = zc c
  · refine (if_pos hk).trans ?_
    have hd : holder c (k.val / 288) = c := if_pos (by omega)
    unfold expertOf
    rw [hd]
    refine (own_apply _ _ _ _ _).trans ?_
    have hrow : ∀ d, rowBlk (288 * (k.val / 288)) 288 (bufOf G c) (ix2 ⟨k.val % 288, Nat.mod_lt _ (by decide)⟩ d) = bufOf G c (ix2 k d) := fun d => by
      rw [rowBlk_apply _ _ _ _ _ (by show 288 * (k.val / 288) + k.val % 288 < 1152; omega)]
      exact congrArg (fun n => bufOf G c (ix2 n d)) (Fin.ext (Nat.div_add_mod _ _))
    exact congrArg (fun r => ffn _ _ r j) (funext hrow)
  · exact (if_neg hk).trans (pbuf_row G c k hk j)

/-- What the kernel writes for a token: the token's expert applied to the token. -/
theorem out_token (G : Args Ideal) (c : Dev nD) (h : Fits (G.a c)) (t j : Fin 1024) :
    outOf G c (ix2 t j) = expertOf G c (ex (G.a c) t) (fun d => G.x c (ix2 t d)) j := by
  rw [out_key h G c rfl, y_row]
  show expertOf G c (key (G.a c) t / 288) _ j = _
  rw [key_div h]
  exact congrArg (fun r => expertOf G c (ex (G.a c) t) r j) (funext fun d => buf_key h G c rfl t d)

end Cert.MoeProof

end
-- ==== Proof.Reference.lean ====
/-
  The reference's value: each token's expert applied to the token, the expert chosen among the four by its number.
-/
module

public import proofs.«01_k».proof.Proof.Products
public import proofs.«01_k».proof.Proof.Gen.ReferenceIdeal.Run

@[expose] public section

noncomputable section

namespace Cert.MoeProof

open Cert.ReferenceIdeal Cert.ReferenceIdeal.Gen
open Idealize.ShloMosaic Idealize.SL.Sem

/-- Expert `e` of all four applied to token `T`. -/
def refExpert (x : FVec Ideal S2048x1024 .bf16) (w1 : FVec Ideal S4x1024x2048 .f32) (w2 : FVec Ideal S4x2048x1024 .f32) (e : Fin 4) (T : Fin 2048) (j : Fin 1024) : EReal :=
  ffn (fun d f => w1 (ix3 e d f)) (fun f j => w2 (ix3 e f j)) (fun d => x (ix2 T d)) j

/-- The reference's result: the token's expert applied to the token, zero where the expert is none of the four. -/
def refOf (x : FVec Ideal S2048x1024 .bf16) (a : IVec S2048 32) (w1 : FVec Ideal S4x1024x2048 .f32) (w2 : FVec Ideal S4x2048x1024 .f32) : FVec Ideal S2048x1024 .f32 := fun i =>
  if a (ix1 (i 0)) = 3#32 then refExpert x w1 w2 3 (i 0) (i 1)
  else if a (ix1 (i 0)) = 2#32 then refExpert x w1 w2 2 (i 0) (i 1)
  else if a (ix1 (i 0)) = 1#32 then refExpert x w1 w2 1 (i 0) (i 1)
  else if a (ix1 (i 0)) = 0#32 then refExpert x w1 w2 0 (i 0) (i 1)
  else 0

/-- A choice by a test of equality. -/
theorem select_eq {α : Type} (u v : BitVec 32) (p q : α) : Scalar.select (IntOp.cmpi .eq u v) p q = if u = v then p else q := by
  by_cases h : u = v
  · rw [if_pos h, h]
    simp [Scalar.select, IntOp.cmpi]
  · rw [if_neg h]
    have hb : (u == v) = false := beq_eq_false_iff_ne.mpr h
    simp [Scalar.select, IntOp.cmpi, hb]

/-- The reference runs from every memory to its result, its arguments unchanged. -/
theorem run_reference (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v48) = refOf (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun _ h c => ⟨(h c).1.trans ?_, (h c).2⟩) (Cert.ReferenceIdeal.Value.run (F := Ideal) m ρ)
  generalize m ((c.tc : Thread nD τ).loc main_arg0) = x
  generalize m ((c.tc : Thread nD τ).loc main_arg1) = a
  generalize m ((c.tc : Thread nD τ).loc main_arg2) = w1
  generalize m ((c.tc : Thread nD τ).loc main_arg3) = w2
  funext i
  obtain ⟨T, j, rfl⟩ : ∃ (T : Fin 2048) (j : Fin 1024), i = ix2 T j := ⟨i 0, i 1, eq_ix2 i⟩
  pointwise [dot_S2048x2048_S2048x1024_S2048x1024_1_0_0_1_n_n, dot_S2048x1024_S1024x2048_S2048x2048_1_0_0_1_n_n, refOf]
  simp only [select_eq]
  rfl

/-- Where the token's expert is `e`, the result is expert `e` applied to the token. -/
theorem refOf_apply (x : FVec Ideal S2048x1024 .bf16) (a : IVec S2048 32) (w1 : FVec Ideal S4x1024x2048 .f32) (w2 : FVec Ideal S4x2048x1024 .f32)
    (T : Fin 2048) (j : Fin 1024) (e : Fin 4) (he : a (ix1 T) = BitVec.ofNat 32 e.val) : refOf x a w1 w2 (ix2 T j) = refExpert x w1 w2 e T j := by
  show (if a (ix1 T) = 3#32 then refExpert x w1 w2 3 T j else if a (ix1 T) = 2#32 then refExpert x w1 w2 2 T j
    else if a (ix1 T) = 1#32 then refExpert x w1 w2 1 T j else if a (ix1 T) = 0#32 then refExpert x w1 w2 0 T j else 0) = _
  rw [he]
  match e with
  | 0 => rfl
  | 1 => rfl
  | 2 => rfl
  | 3 => rfl

end Cert.MoeProof

end
-- ==== Proof.Values.lean ====
/-
  The value claim: under the precondition the kernel's result on every device is the device's block of the reference's result.
-/
module

public import proofs.«01_k».proof.Proof.Fitting
public import proofs.«01_k».proof.Proof.Experts
public import proofs.«01_k».proof.Proof.Reference
public import proofs.«01_k».proof.Proof.Frames

@[expose] public section

noncomputable section

namespace Cert.MoeProof

open Cert.KernelIdeal Cert.KernelIdeal.Gen
open Idealize.ShloMosaic Idealize.SL.Sem

/-! ## A device's block of an array cut in two along the mesh axis `z` -/

/-- The block of a matrix of 2048 rows. -/
theorem block_rows {α : Type} (v : (⟨2, ![2048, 1024]⟩ : Shape).Idx → α) (c : Dev nD) (t d : Fin 1024) (h : 1024 * zc c + t.val < 2048) :
    (Layout.blockN ⟨2, ![1024, 1024]⟩ ⟨2, ![2048, 1024]⟩ (Layout.meshBlock [2, 2, 2] ![[2], []] c) v) (ix2 t d) = v (ix2 ⟨1024 * zc c + t.val, h⟩ d) := by
  refine congrArg v (funext fun b => Fin.ext ?_)
  match b with
  | 0 => show (c.val / 1 % 2 * 1 + 0) * 1024 + t.val = 1024 * (c.val % 2) + t.val; omega
  | 1 => show 0 * 1024 + d.val = d.val; omega

/-- The block of a vector of 2048 entries. -/
theorem block_vec {α : Type} (v : (⟨1, ![2048]⟩ : Shape).Idx → α) (c : Dev nD) (t : Fin 1024) (h : 1024 * zc c + t.val < 2048) :
    (Layout.blockN ⟨1, ![1024]⟩ ⟨1, ![2048]⟩ (Layout.meshBlock [2, 2, 2] ![[2]] c) v) (ix1 t) = v (ix1 ⟨1024 * zc c + t.val, h⟩) := by
  refine congrArg v (funext fun b => Fin.ext ?_)
  match b with
  | 0 => show (c.val / 1 % 2 * 1 + 0) * 1024 + t.val = 1024 * (c.val % 2) + t.val; omega

/-- The block of the four experts' first matrices. -/
theorem block_w1 {α : Type} (v : (⟨3, ![4, 1024, 2048]⟩ : Shape).Idx → α) (c : Dev nD) (e : Fin 2) (d : Fin 1024) (f : Fin 2048) (q : Fin 4)
    (h : q.val = 2 * zc c + e.val) :
    (Layout.blockN ⟨3, ![2, 1024, 2048]⟩ ⟨3, ![4, 1024, 2048]⟩ (Layout.meshBlock [2, 2, 2] ![[2], [], []] c) v) (ix3 e d f) = v (ix3 q d f) := by
  refine congrArg v (funext fun b => Fin.ext ?_)
  match b with
  | 0 => show (c.val / 1 % 2 * 1 + 0) * 2 + e.val = q.val; rw [h]; unfold zc; omega
  | 1 => show 0 * 1024 + d.val = d.val; omega
  | 2 => show 0 * 2048 + f.val = f.val; omega

/-- The block of the four experts' second matrices. -/
theorem block_w2 {α : Type} (v : (⟨3, ![4, 2048, 1024]⟩ : Shape).Idx → α) (c : Dev nD) (e : Fin 2) (f : Fin 2048) (d : Fin 1024) (q : Fin 4)
    (h : q.val = 2 * zc c + e.val) :
    (Layout.blockN ⟨3, ![2, 2048, 1024]⟩ ⟨3, ![4, 2048, 1024]⟩ (Layout.meshBlock [2, 2, 2] ![[2], [], []] c) v) (ix3 e f d) = v (ix3 q f d) := by
  refine congrArg v (funext fun b => Fin.ext ?_)
  match b with
  | 0 => show (c.val / 1 % 2 * 1 + 0) * 2 + e.val = q.val; rw [h]; unfold zc; omega
  | 1 => show 0 * 2048 + f.val = f.val; omega
  | 2 => show 0 * 1024 + d.val = d.val; omega

/-! ## The two results -/

/-- The device that holds an expert is on the expert's side of the mesh axis. -/
theorem zc_holder (c : Dev nD) (q : ℕ) (hq : q < 4) : zc (holder c q) = q / 2 := by
  have hz := zc_lt c
  unfold holder
  split
  · next h => exact h.symm
  · next h => rw [zc_pe]; omega

/-- What a device writes is its block of the reference's result. -/
theorem out_block (G : Args Ideal) (c : Dev nD) (h : Fits (G.a c)) (x : FVec Ideal Cert.ReferenceIdeal.S2048x1024 .bf16) (a : IVec Cert.ReferenceIdeal.S2048 32)
    (w1 : FVec Ideal Cert.ReferenceIdeal.S4x1024x2048 .f32) (w2 : FVec Ideal Cert.ReferenceIdeal.S4x2048x1024 .f32)
    (hx : G.x c = Layout.blockN ⟨2, ![1024, 1024]⟩ ⟨2, ![2048, 1024]⟩ (Layout.meshBlock [2, 2, 2] ![[2], []] c) x)
    (ha : ∀ t : Fin 1024, G.a c (ix2 t 0) = (Layout.blockN ⟨1, ![1024]⟩ ⟨1, ![2048]⟩ (Layout.meshBlock [2, 2, 2] ![[2]] c) a) (ix1 t))
    (h1 : ∀ c, G.w1 c = Layout.blockN ⟨3, ![2, 1024, 2048]⟩ ⟨3, ![4, 1024, 2048]⟩ (Layout.meshBlock [2, 2, 2] ![[2], [], []] c) w1)
    (h2 : ∀ c, G.w2 c = Layout.blockN ⟨3, ![2, 2048, 1024]⟩ ⟨3, ![4, 2048, 1024]⟩ (Layout.meshBlock [2, 2, 2] ![[2], [], []] c) w2) :
    outOf G c = Layout.blockN ⟨2, ![1024, 1024]⟩ ⟨2, ![2048, 1024]⟩ (Layout.meshBlock [2, 2, 2] ![[2], []] c) (refOf x a w1 w2) := by
  funext i
  obtain ⟨t, j, rfl⟩ : ∃ t j : Fin 1024, i = ix2 t j := ⟨i 0, i 1, eq_ix2 i⟩
  have hz := zc_lt c
  have hT : 1024 * zc c + t.val < 2048 := by omega
  have hq := h.ids t
  have hword : a (ix1 ⟨1024 * zc c + t.val, hT⟩) = BitVec.ofNat 32 (ex (G.a c) t) := by
    rw [← ex_word, ha t, block_vec a c t hT]
  rw [out_token G c h t j]
  refine Eq.trans ?_ (block_rows (refOf x a w1 w2) c t j hT).symm
  rw [refOf_apply x a w1 w2 _ j ⟨ex (G.a c) t, hq⟩ hword]
  have hh : ex (G.a c) t = 2 * zc (holder c (ex (G.a c) t)) + ex (G.a c) t % 2 := by
    rw [zc_holder c _ hq]; omega
  refine ffn_congr j (fun d f => ?_) (fun f j => ?_) (fun d => ?_)
  · rw [h1]
    exact block_w1 w1 _ _ d f ⟨ex (G.a c) t, hq⟩ hh
  · rw [h2]
    exact block_w2 w2 _ _ f j ⟨ex (G.a c) t, hq⟩ hh
  · rw [hx]
    exact block_rows x c t d hT

/-- The value claim. -/
theorem algebraic : Cert.algebraic_KernelIdeal_ReferenceIdeal_pre_experts_fit_KernelIdeal (hKernelIdeal := Cert.KernelIdeal.Gen.facts)
    (hReferenceIdeal := Cert.ReferenceIdeal.Gen.facts) (hPre_experts_fit_KernelIdeal := pre_facts) := by
  intro m g m' g' hpre hargs
  refine ⟨refOf _ _ _ _, ?_, (θ_run Cert.ReferenceIdeal.defs _ _).mono (fun r h => h 0) (run_reference m' g')⟩
  refine (θ_run Cert.KernelIdeal.defs _ _).mono (fun r h c => ⟨((h.1 c).2).trans ?_, (h.1 c).1⟩) (run_main (F := Ideal) m g)
  refine out_block (args m) c (fits_of _ _ _ _ _ (args_a m c) (hpre c).1 (hpre c).2) _ _ _ _ (hargs c).1 (fun t => ?_) (fun c => (hargs c).2.2.1) fun c => (hargs c).2.2.2
  rw [args_a m c t]
  exact congrFun (hargs c).2.1 (ix1 t)

end Cert.MoeProof

end
-- ==== Proof.lean ====
/-
  The claims, from the modules that prove them.
-/
module

public import proofs.«01_k».proof.Defs
public import proofs.«01_k».proof.Proof.Frames
public import proofs.«01_k».proof.Proof.Values

@[expose] public section

noncomputable section

namespace Cert.Proof

open Idealize.ShloMosaic Idealize.SL.Sem

/-- Every claim of the certificate. -/
theorem claim : Cert.Claim := ⟨Cert.Kernel.Gen.facts, Cert.KernelIdeal.Gen.facts, Cert.ReferenceIdeal.Gen.facts,
  Cert.MoeProof.pre_facts, Cert.MoeProof.pre_facts_reference,
  Cert.MoeProof.frame_kernel, Cert.MoeProof.frame_ideal, fun m ρ _ => Cert.MoeProof.frame_ideal m ρ trivial,
  Cert.MoeProof.frame_reference, fun m ρ _ => Cert.MoeProof.frame_reference m ρ trivial, trivial, Cert.MoeProof.algebraic⟩

end Cert.Proof

end
